-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_q_k_KernelIdeal [hPre_finite_q_k_KernelIdeal : Cert.Pre_finite_q_k_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_q_k_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_q_k_ReferenceIdeal [hPre_finite_q_k_ReferenceIdeal : Cert.Pre_finite_q_k_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_q_k_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_q_k_KernelIdeal [hKernelIdeal : Cert.KernelIdeal.Facts] [hPre_finite_q_k_KernelIdeal : Cert.Pre_finite_q_k_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_q_k_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_q_k_ReferenceIdeal [hReferenceIdeal : Cert.ReferenceIdeal.Facts] [hPre_finite_q_k_ReferenceIdeal : Cert.Pre_finite_q_k_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_q_k_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_q_k_KernelIdeal [hKernelIdeal : Cert.KernelIdeal.Facts] [hReferenceIdeal : Cert.ReferenceIdeal.Facts] [hPre_finite_q_k_KernelIdeal : Cert.Pre_finite_q_k_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_q_k_KernelIdeal m →
    (∀ c : Dev Cert.KernelIdeal.nD,
      m ((c.tc : Thread Cert.KernelIdeal.nD Cert.KernelIdeal.τ).loc Cert.KernelIdeal.main_arg0) = Layout.block ⟨2, ![256, 64]⟩ ⟨2, ![2048, 64]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 64]⟩ ⟨2, ![2048, 64]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 64]⟩ ⟨2, ![2048, 64]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 64]⟩ ⟨2, ![2048, 64]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_q_k_KernelIdeal : Cert.Pre_finite_q_k_KernelIdeal.Facts) (hPre_finite_q_k_ReferenceIdeal : Cert.Pre_finite_q_k_ReferenceIdeal.Facts),
    quiescent_Kernel (hKernel := hKernel)
    ∧ quiescent_KernelIdeal (hKernelIdeal := hKernelIdeal)
    ∧ quiescent_KernelIdeal_pre_finite_q_k_KernelIdeal (hKernelIdeal := hKernelIdeal) (hPre_finite_q_k_KernelIdeal := hPre_finite_q_k_KernelIdeal)
    ∧ quiescent_ReferenceIdeal (hReferenceIdeal := hReferenceIdeal)
    ∧ quiescent_ReferenceIdeal_pre_finite_q_k_ReferenceIdeal (hReferenceIdeal := hReferenceIdeal) (hPre_finite_q_k_ReferenceIdeal := hPre_finite_q_k_ReferenceIdeal)
    ∧ preserves_Kernel_KernelIdeal
    ∧ algebraic_KernelIdeal_ReferenceIdeal_pre_finite_q_k_KernelIdeal (hKernelIdeal := hKernelIdeal) (hReferenceIdeal := hReferenceIdeal) (hPre_finite_q_k_KernelIdeal := hPre_finite_q_k_KernelIdeal)
-- ==== Pre_finite_q_k_KernelIdeal.lean ====
abbrev S256x64 : Shape := ⟨2, ![256, 64]⟩
abbrev S_ : Shape := ⟨0, ![]⟩

class Facts : Prop where
  bcast_S_S256x64 : S_.BroadcastsInDim S256x64 (![] : Fin 0 → Fin S256x64.rank)
  reducesTo_S256x64_S_d0_1 : S256x64.ReducesTo [0, 1] S_
  h_S_ : 0 < S_.numel

variable [Facts]

def fn {F : FTy → Type} [FloatOps F] (main_arg0 : FVec F S256x64 .f32) (main_arg1 : FVec F S256x64 .f32) (main_arg2 : FVec F S256x64 .f32) : IVec S_ 1 :=
  let main_v0 : FVec F S256x64 .f32 := Host.absf main_arg0
  let main_cst : FVec F S_ .f32 := constant S_ .f32 0x7F800000#32
  let main_v1 : FVec F S256x64 .f32 := broadcastInDim S256x64 ![] bcast_S_S256x64 main_cst
  let main_v2 : IVec S256x64 1 := cmpf .olt main_v0 main_v1
  let main_c : IVec S_ 1 := constantI S_ 1 1#1
  let main_v3 : IVec S_ 1 := (fun x v => Host.reduce IntOp.andi x v reducesTo_S256x64_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  main_v8
-- ==== Pre_finite_q_k_ReferenceIdeal.lean ====
abbrev S2048x64 : Shape := ⟨2, ![2048, 64]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel

variable [Facts]

def fn {F : FTy → Type} [FloatOps F] (main_arg0 : FVec F S2048x64 .f32) (main_arg1 : FVec F S2048x64 .f32) (main_arg2 : FVec F S2048x64 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  main_v8
-- ==== Kernel.lean ====
abbrev S256x64 : Shape := ⟨2, ![256, 64]⟩
abbrev S8x256x64 : Shape := ⟨3, ![8, 256, 64]⟩
abbrev S2048x64 : Shape := ⟨2, ![2048, 64]⟩
abbrev S256x2048 : Shape := ⟨2, ![256, 2048]⟩
abbrev S7 : Shape := ⟨1, ![7]⟩
abbrev S_ : Shape := ⟨0, ![]⟩
abbrev S1x256x64 : Shape := ⟨3, ![1, 256, 64]⟩
abbrev S1 : Shape := ⟨1, ![1]⟩
abbrev S256x256 : Shape := ⟨2, ![256, 256]⟩
abbrev S2048x1 : Shape := ⟨2, ![2048, 1]⟩
abbrev S2048x65 : Shape := ⟨2, ![2048, 65]⟩
abbrev S256x65 : Shape := ⟨2, ![256, 65]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S256x64, .f32⟩
  | .hbm, ⟨1, _⟩ => ⟨S256x64, .f32⟩
  | .hbm, ⟨2, _⟩ => ⟨S256x64, .f32⟩
  | .hbm, ⟨3, _⟩ => ⟨S256x64, .f32⟩
  | .local _ .vmem, ⟨0, _⟩ => ⟨S256x64, .f32⟩
  | .local _ .vmem, ⟨1, _⟩ => ⟨S256x64, .f32⟩
  | .local _ .vmem, ⟨2, _⟩ => ⟨S256x64, .f32⟩
  | .local _ .vmem, ⟨3, _⟩ => ⟨S256x64, .f32⟩
  | .local _ .vmem, ⟨4, _⟩ => ⟨S8x256x64, .bf16⟩
  | .local _ .vmem, ⟨5, _⟩ => ⟨S2048x64, .bf16⟩
  | .local _ .vmem, ⟨6, _⟩ => ⟨S256x2048, .bf16⟩
  | _, _ => ⟨S256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c7_i32 : BitVec 32 := 7#32
  let v4 : BitVec 32 := Scalar.andi v3 c7_i32
  let c1_i32_9 : BitVec 32 := 1#32
  let v18 : BitVec 32 := Scalar.muli v4 c1_i32_9
  let v19 : BitVec 32 := Scalar.addi c0_i32 v18
  v19.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v5 : BitVec 32 := Scalar.addi v2 c2_i32
  let c7_i32_1 : BitVec 32 := 7#32
  let v6 : BitVec 32 := Scalar.andi v5 c7_i32_1
  let c1_i32_11 : BitVec 32 := 1#32
  let v20 : BitVec 32 := Scalar.muli v6 c1_i32_11
  let v21 : BitVec 32 := Scalar.addi c0_i32_12 v20
  v21.toNat
def k0_dev3 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.addi v2 c3_i32
  let c7_i32_2 : BitVec 32 := 7#32
  let v8 : BitVec 32 := Scalar.andi v7 c7_i32_2
  let c1_i32_14 : BitVec 32 := 1#32
  let v22 : BitVec 32 := Scalar.muli v8 c1_i32_14
  let v23 : BitVec 32 := Scalar.addi c0_i32_15 v22
  v23.toNat
def k0_dev4 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.addi v2 c4_i32
  let c7_i32_3 : BitVec 32 := 7#32
  let v10 : BitVec 32 := Scalar.andi v9 c7_i32_3
  let c1_i32_17 : BitVec 32 := 1#32
  let v24 : BitVec 32 := Scalar.muli v10 c1_i32_17
  let v25 : BitVec 32 := Scalar.addi c0_i32_18 v24
  v25.toNat
def k0_dev5 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v11 : BitVec 32 := Scalar.addi v2 c5_i32
  let c7_i32_4 : BitVec 32 := 7#32
  let v12 : BitVec 32 := Scalar.andi v11 c7_i32_4
  let c1_i32_20 : BitVec 32 := 1#32
  let v26 : BitVec 32 := Scalar.muli v12 c1_i32_20
  let v27 : BitVec 32 := Scalar.addi c0_i32_21 v26
  v27.toNat
def k0_dev6 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v13 : BitVec 32 := Scalar.addi v2 c6_i32
  let c7_i32_5 : BitVec 32 := 7#32
  let v14 : BitVec 32 := Scalar.andi v13 c7_i32_5
  let c1_i32_23 : BitVec 32 := 1#32
  let v28 : BitVec 32 := Scalar.muli v14 c1_i32_23
  let v29 : BitVec 32 := Scalar.addi c0_i32_24 v28
  v29.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 32 := Scalar.addi v2 c7_i32_6
  let c7_i32_7 : BitVec 32 := 7#32
  let v16 : BitVec 32 := Scalar.andi v15 c7_i32_7
  let c1_i32_26 : BitVec 32 := 1#32
  let v30 : BitVec 32 := Scalar.muli v16 c1_i32_26
  let v31 : BitVec 32 := Scalar.addi c0_i32_27 v30
  v31.toNat
def k0_dev8 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.addi v2 c4_i32
  let c7_i32_3 : BitVec 32 := 7#32
  let v10 : BitVec 32 := Scalar.andi v9 c7_i32_3
  let c1_i32_43 : BitVec 32 := 1#32
  let v49 : BitVec 32 := Scalar.muli v10 c1_i32_43
  let v50 : BitVec 32 := Scalar.addi c0_i32_44 v49
  v50.toNat
def k0_dev9 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c7_i32 : BitVec 32 := 7#32
  let v4 : BitVec 32 := Scalar.andi v3 c7_i32
  let c1_i32_53 : BitVec 32 := 1#32
  let v59 : BitVec 32 := Scalar.muli v4 c1_i32_53
  let v60 : BitVec 32 := Scalar.addi c0_i32_54 v59
  v60.toNat
def k0_dev10 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 32 := Scalar.addi v2 c7_i32_6
  let c7_i32_7 : BitVec 32 := 7#32
  let v16 : BitVec 32 := Scalar.andi v15 c7_i32_7
  let c1_i32_63 : BitVec 32 := 1#32
  let v69 : BitVec 32 := Scalar.muli v16 c1_i32_63
  let v70 : BitVec 32 := Scalar.addi c0_i32_64 v69
  v70.toNat
def k0_dev11 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v11 : BitVec 32 := Scalar.addi v2 c5_i32
  let c7_i32_4 : BitVec 32 := 7#32
  let v12 : BitVec 32 := Scalar.andi v11 c7_i32_4
  let c1_i32_73 : BitVec 32 := 1#32
  let v79 : BitVec 32 := Scalar.muli v12 c1_i32_73
  let v80 : BitVec 32 := Scalar.addi c0_i32_74 v79
  v80.toNat
def k0_dev12 (d0 : Dev nD) : Nat :=
  let c0_i32_84 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.addi v2 c3_i32
  let c7_i32_2 : BitVec 32 := 7#32
  let v8 : BitVec 32 := Scalar.andi v7 c7_i32_2
  let c1_i32_83 : BitVec 32 := 1#32
  let v89 : BitVec 32 := Scalar.muli v8 c1_i32_83
  let v90 : BitVec 32 := Scalar.addi c0_i32_84 v89
  v90.toNat
def k0_dev13 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v13 : BitVec 32 := Scalar.addi v2 c6_i32
  let c7_i32_5 : BitVec 32 := 7#32
  let v14 : BitVec 32 := Scalar.andi v13 c7_i32_5
  let c1_i32_93 : BitVec 32 := 1#32
  let v99 : BitVec 32 := Scalar.muli v14 c1_i32_93
  let v100 : BitVec 32 := Scalar.addi c0_i32_94 v99
  v100.toNat
def k0_dev14 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v5 : BitVec 32 := Scalar.addi v2 c2_i32
  let c7_i32_1 : BitVec 32 := 7#32
  let v6 : BitVec 32 := Scalar.andi v5 c7_i32_1
  let c1_i32_103 : BitVec 32 := 1#32
  let v109 : BitVec 32 := Scalar.muli v6 c1_i32_103
  let v110 : BitVec 32 := Scalar.addi c0_i32_104 v109
  v110.toNat
def k0_dev15 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v9 : BitVec 32 := Scalar.addi v2 c4_i32
  let c7_i32_3 : BitVec 32 := 7#32
  let v10 : BitVec 32 := Scalar.andi v9 c7_i32_3
  let c1_i32_111 : BitVec 32 := 1#32
  let v119 : BitVec 32 := Scalar.muli v10 c1_i32_111
  let v120 : BitVec 32 := Scalar.addi c0_i32_112 v119
  v120.toNat
def k0_dev16 (d0 : Dev nD) : Nat :=
  let c0_i32_119 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.addi v2 c1_i32_0
  let c7_i32 : BitVec 32 := 7#32
  let v4 : BitVec 32 := Scalar.andi v3 c7_i32
  let c1_i32_118 : BitVec 32 := 1#32
  let v127 : BitVec 32 := Scalar.muli v4 c1_i32_118
  let v128 : BitVec 32 := Scalar.addi c0_i32_119 v127
  v128.toNat
def k0_dev17 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_6 : BitVec 32 := 7#32
  let v15 : BitVec 32 := Scalar.addi v2 c7_i32_6
  let c7_i32_7 : BitVec 32 := 7#32
  let v16 : BitVec 32 := Scalar.andi v15 c7_i32_7
  let c1_i32_125 : BitVec 32 := 1#32
  let v135 : BitVec 32 := Scalar.muli v16 c1_i32_125
  let v136 : BitVec 32 := Scalar.addi c0_i32_126 v135
  v136.toNat
def k0_dev18 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v11 : BitVec 32 := Scalar.addi v2 c5_i32
  let c7_i32_4 : BitVec 32 := 7#32
  let v12 : BitVec 32 := Scalar.andi v11 c7_i32_4
  let c1_i32_132 : BitVec 32 := 1#32
  let v143 : BitVec 32 := Scalar.muli v12 c1_i32_132
  let v144 : BitVec 32 := Scalar.addi c0_i32_133 v143
  v144.toNat
def k0_dev19 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.addi v2 c3_i32
  let c7_i32_2 : BitVec 32 := 7#32
  let v8 : BitVec 32 := Scalar.andi v7 c7_i32_2
  let c1_i32_139 : BitVec 32 := 1#32
  let v151 : BitVec 32 := Scalar.muli v8 c1_i32_139
  let v152 : BitVec 32 := Scalar.addi c0_i32_140 v151
  v152.toNat
def k0_dev20 (d0 : Dev nD) : Nat :=
  let c0_i32_147 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v13 : BitVec 32 := Scalar.addi v2 c6_i32
  let c7_i32_5 : BitVec 32 := 7#32
  let v14 : BitVec 32 := Scalar.andi v13 c7_i32_5
  let c1_i32_146 : BitVec 32 := 1#32
  let v159 : BitVec 32 := Scalar.muli v14 c1_i32_146
  let v160 : BitVec 32 := Scalar.addi c0_i32_147 v159
  v160.toNat
def k0_dev21 (d0 : Dev nD) : Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v5 : BitVec 32 := Scalar.addi v2 c2_i32
  let c7_i32_1 : BitVec 32 := 7#32
  let v6 : BitVec 32 := Scalar.andi v5 c7_i32_1
  let c1_i32_153 : BitVec 32 := 1#32
  let v167 : BitVec 32 := Scalar.muli v6 c1_i32_153
  let v168 : BitVec 32 := Scalar.addi c0_i32_154 v167
  v168.toNat
abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x64 : Shape := ⟨2, ![2048, 64]⟩
abbrev S64x2048 : Shape := ⟨2, ![64, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x64, .f32⟩
  | .hbm, ⟨3, _⟩ => ⟨S64x2048, .f32⟩
  | .hbm, ⟨4, _⟩ => ⟨S2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S2048x2048, .f32⟩
  | .hbm, ⟨20, _⟩ => ⟨S2048x2048, .f32⟩
  | .hbm, ⟨21, _⟩ => ⟨S2048x64, .f32⟩
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Protocol.lean ====
/-
The protocol of the attention kernel: which device talks to which, what every semaphore cell hands over and what
the buffers hold.

Device `c` first gives each of its seven peers the right to write one slot of its key buffer and one row slab of
its value buffer (a signal on the peer's barrier semaphore), waits for the seven signals of its own barrier, and
then copies its key block and its value block to every peer. Each copy has a send and a receive semaphore of its
own, so each semaphore cell runs through one round. The source of a copy stays readable: a copy is lent a share.

Peers are counted by `j : Fin 7`, the peer at distance `j + 1`; seen from there the way back has index `j.rev`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

noncomputable section

namespace Cert.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

/-! ## The resource algebra: the pipeline library's copy and one whose duties are named by a peer -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The peers -/

set_option backward.proofsInPublic true in
/-- The device at distance `o` after `c`. -/
def nb (c : Dev nD) (o : Fin 8) : Dev nD := ⟨(c.val + o.val) % 8, Nat.mod_lt _ (by decide)⟩
/-- The peer of index `j`. -/
abbrev peer (c : Dev nD) (j : Fin 7) : Dev nD := nb c j.succ

theorem nb_zero (c : Dev nD) : nb c 0 = c := by revert c; decide
theorem peer_rev (c : Dev nD) (j : Fin 7) : peer (peer c j) j.rev = c := by revert c j; decide
theorem nb_rev (c : Dev nD) (j : Fin 7) : nb (peer c j) j.rev.succ = c := peer_rev c j
theorem peer_inj (c c' : Dev nD) (j : Fin 7) (h : peer c j = peer c' j) : c = c' := by
  rw [← peer_rev c j, ← peer_rev c' j, h]

/-- Going to the peer of index `j`, as a permutation of the devices. -/
def around (j : Fin 7) : Dev nD ≃ Dev nD :=
  ⟨fun c => peer c j, fun c => peer c j.rev, fun c => peer_rev c j, fun c => by
    have := peer_rev c j.rev; rwa [Fin.rev_rev] at this⟩

/-! ## Buffers: their slots, slabs and column pieces -/

abbrev qM : Memref sig .tc .vmem S256x64 .f32 := Memref.whole cc0_stg0_0
abbrev kinM : Memref sig .tc .vmem S256x64 .f32 := Memref.whole cc0_stg1_0
abbrev vinM : Memref sig .tc .vmem S256x64 .f32 := Memref.whole cc0_stg2_0
abbrev oM : Memref sig .tc .vmem S256x64 .f32 := Memref.whole cc0_stg3_0
abbrev kM : Memref sig .tc .vmem S8x256x64 .bf16 := Memref.whole cc0_scratch0
abbrev vM : Memref sig .tc .vmem S2048x64 .bf16 := Memref.whole cc0_scratch1
abbrev pM : Memref sig .tc .vmem S256x2048 .bf16 := Memref.whole cc0_scratch2

theorem kRect_inb (o : Fin 8) : ∀ a, (![o.val, 0, 0] : Fin 3 → ℕ) a + S1x256x64.size a ≤ S8x256x64.size a := by
  revert o; decide
theorem vRect_inb (o : Fin 8) : ∀ a, (![256 * o.val, 0] : Fin 2 → ℕ) a + S256x64.size a ≤ S2048x64.size a := by
  revert o; decide
theorem pRect_inb (o : Fin 8) : ∀ a, (![0, 256 * o.val] : Fin 2 → ℕ) a + S256x256.size a ≤ S256x2048.size a := by
  revert o; decide

/-- Slot `o` of the key buffer, slab `o` of the value buffer, column piece `o` of the score buffer. -/
abbrev kRect (o : Fin 8) : Rect S8x256x64 := Rect.unit (s := S8x256x64) ![o.val, 0, 0] S1x256x64.size (kRect_inb o)
abbrev vRect (o : Fin 8) : Rect S2048x64 := Rect.unit (s := S2048x64) ![256 * o.val, 0] S256x64.size (vRect_inb o)
abbrev pRect (o : Fin 8) : Rect S256x2048 := Rect.unit (s := S256x2048) ![0, 256 * o.val] S256x256.size (pRect_inb o)

abbrev kSlot (o : Fin 8) : Memref sig .tc .vmem S256x64 .bf16 :=
  (kM.slice (kRect o) (fun _ => rfl)).squeeze S256x64 squeezes_S1x256x64_S256x64
abbrev vSlab (o : Fin 8) : Memref sig .tc .vmem S256x64 .bf16 := vM.slice (vRect o) (fun _ => rfl)

theorem kSlot_set (o : Fin 8) : (kSlot o).view.set = (kRect o).set := by
  show (((View.whole cc0_scratch0).slice (kRect o)).reshape _ _).set = _
  rw [View.set_reshape, View.set_slice_whole]
theorem vSlab_set (o : Fin 8) : (vSlab o).view.set = (vRect o).set := View.set_slice_whole _ _

/-- The memory a slot, a slab, a column piece and a whole buffer of device `c` takes, at share `q`, holding `f` there. -/
def kPts (c : Dev nD) (o : Fin 8) (q : PosShare TreeShare) (f : Buf (Elt F) ((c : Thread nD τ).loc cc0_scratch0)) : sProp 𝕄 :=
  ((c : Thread nD τ).loc cc0_scratch0) ↦[(kRect o).set]{q} f
def vPts (c : Dev nD) (o : Fin 8) (q : PosShare TreeShare) (f : Buf (Elt F) ((c : Thread nD τ).loc cc0_scratch1)) : sProp 𝕄 :=
  ((c : Thread nD τ).loc cc0_scratch1) ↦[(vRect o).set]{q} f
def pPts (c : Dev nD) (o : Fin 8) (q : PosShare TreeShare) (f : Buf (Elt F) ((c : Thread nD τ).loc cc0_scratch2)) : sProp 𝕄 :=
  ((c : Thread nD τ).loc cc0_scratch2) ↦[(pRect o).set]{q} f

omit [FloatOps F] in
instance kPts_storable (c : Dev nD) (o q f) : BI.Storable (upEmb : UEmb _ 𝕄) (kPts (F := F) c o q f) := by
  unfold kPts; infer_instance
omit [FloatOps F] in
instance vPts_storable (c : Dev nD) (o q f) : BI.Storable (upEmb : UEmb _ 𝕄) (vPts (F := F) c o q f) := by
  unfold vPts; infer_instance

/-! ## Contents -/

/-- The blocks of queries, keys and values device `d` is given. -/
def qStg (d : Dev nD) : (cc0_stg0_0 : Ref sig .tc).ty.Contents (Elt F) :=
  (win0_0.blk (0 : Fin 1)).view.read (Elt F) (m ((d : Thread nD τ).loc main_arg0))
def kStg (d : Dev nD) : (cc0_stg1_0 : Ref sig .tc).ty.Contents (Elt F) :=
  (win0_1.blk (0 : Fin 1)).view.read (Elt F) (m ((d : Thread nD τ).loc main_arg1))
def vStg (d : Dev nD) : (cc0_stg2_0 : Ref sig .tc).ty.Contents (Elt F) :=
  (win0_2.blk (0 : Fin 1)).view.read (Elt F) (m ((d : Thread nD τ).loc main_arg2))

/-- Device `d`'s scaled queries, its keys and its values as it holds them in the buffers. -/
def qB (d : Dev nD) : FVec F S256x64 .bf16 := k0_pay3 (qStg m d)
def kB (d : Dev nD) : FVec F S1x256x64 .bf16 := k0_pay1 (kStg m d)
def vB (d : Dev nD) : FVec F S256x64 .bf16 := k0_pay2 (vStg m d)

/-- The key buffer of device `c` once every copy has landed: slot `o` holds the keys of the device at distance `o`. -/
def kAll (c : Dev nD) : Vec F S8x256x64 .bf16 :=
  fun i => kB m (nb c (i 0)) (ix3 (0 : Fin 1) (i 1) (i 2))
/-- The value buffer likewise: rows `256 o …` hold the values of the device at distance `o`. -/
def vAll (c : Dev nD) : Vec F S2048x64 .bf16 :=
  fun i => vB m (nb c ⟨(i 0).val / 256, by have h : (i 0).val < 2048 := (i 0).isLt; omega⟩)
    (ix2 (⟨(i 0).val % 256, Nat.mod_lt _ (by decide)⟩ : Fin 256) (i 1))
/-- The scores of device `c`: columns `256 o …` are its queries against the keys of the device at distance `o`. -/
def pAll (c : Dev nD) : Vec F S256x2048 .bf16 :=
  fun i => k0_pay4 (qB m c) (kB m (nb c ⟨(i 1).val / 256, by have h : (i 1).val < 2048 := (i 1).isLt; omega⟩))
    (ix2 (i 0) (⟨(i 1).val % 256, Nat.mod_lt _ (by decide)⟩ : Fin 256))
/-- What device `c` writes. -/
def outAt (c : Dev nD) : (cc0_stg3_0 : Ref sig .tc).ty.Contents (Elt F) := k0_pay13 (vAll m c) (pAll m c)

theorem kAll_emb (c : Dev nD) (o : Fin 8) (y : S1x256x64.Idx) : kAll m c ((kRect o).emb y) = kB m (nb c o) y := by
  unfold kAll
  have e0 : (kRect o).emb y 0 = o := Fin.ext (by
    rw [Rect.emb_apply]
    have : (y 0).val < 1 := (y 0).isLt
    show o.val + 1 * (y 0).val = o.val
    omega)
  have e1 : ((kRect o).emb y 1).val = (y 1).val := by
    rw [Rect.emb_apply]; show 0 + 1 * (y 1).val = (y 1).val; omega
  have e2 : ((kRect o).emb y 2).val = (y 2).val := by
    rw [Rect.emb_apply]; show 0 + 1 * (y 2).val = (y 2).val; omega
  have e : (ix3 (0 : Fin 1) ((kRect o).emb y 1) ((kRect o).emb y 2) : S1x256x64.Idx) = y := by
    funext a
    match a with
    | ⟨0, _⟩ => exact Fin.ext (by have : (y 0).val < 1 := (y 0).isLt; show 0 = (y 0).val; omega)
    | ⟨1, _⟩ => exact Fin.ext e1
    | ⟨2, _⟩ => exact Fin.ext e2
  rw [e0, e]

theorem vAll_emb (c : Dev nD) (o : Fin 8) (y : S256x64.Idx) : vAll m c ((vRect o).emb y) = vB m (nb c o) y := by
  have h0 : ((vRect o).emb y 0).val = 256 * o.val + (y 0).val := by
    rw [Rect.emb_apply]; show 256 * o.val + 1 * (y 0).val = _; omega
  have h1 : ((vRect o).emb y 1).val = (y 1).val := by
    rw [Rect.emb_apply]; show 0 + 1 * (y 1).val = (y 1).val; omega
  have hy : (y 0).val < 256 := (y 0).isLt
  unfold vAll
  congr 1
  · congr 1
    exact Fin.ext (by show ((vRect o).emb y 0).val / 256 = _; omega)
  · funext a
    match a with
    | ⟨0, _⟩ => exact Fin.ext (by show ((vRect o).emb y 0).val % 256 = (y 0).val; omega)
    | ⟨1, _⟩ => exact Fin.ext h1

theorem pAll_emb (c : Dev nD) (o : Fin 8) (y : S256x256.Idx) :
    pAll m c ((pRect o).emb y) = k0_pay4 (qB m c) (kB m (nb c o)) y := by
  have h0 : ((pRect o).emb y 1).val = 256 * o.val + (y 1).val := by
    rw [Rect.emb_apply]; show 256 * o.val + 1 * (y 1).val = _; omega
  have h1 : ((pRect o).emb y 0).val = (y 0).val := by
    rw [Rect.emb_apply]; show 0 + 1 * (y 0).val = (y 0).val; omega
  have hy : (y 1).val < 256 := (y 1).isLt
  unfold pAll
  congr 1
  · congr 2
    exact Fin.ext (by show ((pRect o).emb y 1).val / 256 = _; omega)
  · funext a
    match a with
    | ⟨0, _⟩ => exact Fin.ext h1
    | ⟨1, _⟩ => exact Fin.ext (by show ((pRect o).emb y 1).val % 256 = (y 1).val; omega)

/-! ## The semaphore cells -/

/-- The barrier semaphore, one per device, not of the kernel's scope. -/
abbrev barS : Sem sig := (SemArray.scalar (sig.barrier 0 rfl) : Sems sig S_).sem

set_option backward.proofsInPublic true in
/-- The transfer semaphores: kind 0 a key sent, 1 a key block received, 2 a value block sent, 3 received. -/
def xsem (k : Fin 4) (j : Fin 7) : DmaSem sig := ⟨4 + 7 * k.val + j.val, by
  have := k.isLt; have := j.isLt; show _ < 32; omega⟩

def osem (x : Fin 4 × Fin 7) : SemLoc sig := .dma (xsem x.1 x.2)
def csem : Option (Fin 4 × Fin 7) → SemLoc sig
  | none => .reg barS
  | some x => osem x

/-- The cells by device and index; a device's barrier cell; its transfer cells. -/
abbrev cell (p : Dev nD × Option (Fin 4 × Fin 7)) : GSem nD τ sig := ((p.1 : Thread nD τ), csem p.2)
abbrev bar (c : Dev nD) : GSem nD τ sig := cell (c, none)
abbrev xc (k : Fin 4) (c : Dev nD) (j : Fin 7) : GSem nD τ sig := cell (c, some (k, j))

theorem csem_injective : Function.Injective csem := by
  intro x y h
  match x, y with
  | none, none => rfl
  | none, some y => exact absurd h (fun h => by cases h)
  | some x, none => exact absurd h (fun h => by cases h)
  | some (k, j), some (k', j') =>
    have h1 : (xsem k j).val = (xsem k' j').val := congrArg Fin.val (SemLoc.dma.inj h)
    have h2 : 4 + 7 * k.val + j.val = 4 + 7 * k'.val + j'.val := h1
    have := j.isLt; have := j'.isLt
    have hk : k = k' := Fin.ext (by omega)
    have hj : j = j' := Fin.ext (by omega)
    rw [hk, hj]

theorem cell_injective : Function.Injective cell := by
  rintro ⟨c, x⟩ ⟨c', x'⟩ h
  have h1 : c = c' := congrArg (fun g : GSem nD τ sig => g.1.1) h
  have h2 : x = x' := csem_injective (congrArg (fun g : GSem nD τ sig => g.2) h)
  rw [h1, h2]

/-- The units one key copy and one value copy move. -/
def NK : ℕ := (kSlot 0).view.dmaCredit
def NV : ℕ := (vSlab 0).view.dmaCredit
theorem NK_pos : 0 < NK := View.dmaCredit_pos _ (by decide)
theorem NV_pos : 0 < NV := View.dmaCredit_pos _ (by decide)
def nOf (k : Fin 4) : ℕ := if k.val < 2 then NK else NV
theorem nOf_0 : nOf 0 = NK := rfl
theorem nOf_1 : nOf 1 = NK := rfl
theorem nOf_2 : nOf 2 = NV := rfl
theorem nOf_3 : nOf 3 = NV := rfl
theorem kSlot_credit (o : Fin 8) : (kSlot o).view.dmaCredit = NK := rfl
theorem vSlab_credit (o : Fin 8) : (vSlab o).view.dmaCredit = NV := rfl
theorem nOf_pos (k : Fin 4) : 0 < nOf k := by unfold nOf; split; exacts [NK_pos, NV_pos]

attribute [irreducible] NK NV nOf

/-! ## The schedule -/

/-- What the peer of index `j` hands over with its barrier signal: the slot and the slab of its own that this
    device is to fill. -/
def barPay (c : Dev nD) (j : Fin 7) : sProp 𝕄 :=
  iprop((∃ f, kPts (F := F) (peer c j) j.rev.succ fullShare f) ∗ (∃ f, vPts (F := F) (peer c j) j.rev.succ fullShare f))

/-- What the transfer cells hand over: a finished send its lent share of the source, a receipt its slot or slab, filled. -/
def xPay (c : Dev nD) (k : Fin 4) (j : Fin 7) : sProp 𝕄 :=
  match k with
  | 0 => kPts c 0 (shareTok fullShare 7 j) (kAll m c)
  | 1 => kPts c j.succ fullShare (kAll m c)
  | 2 => vPts c 0 (shareTok fullShare 7 j) (vAll m c)
  | 3 => vPts c j.succ fullShare (vAll m c)

instance xPay_storable (c : Dev nD) (k j) : BI.Storable (upEmb : UEmb _ 𝕄) (xPay (F := F) m c k j) := by
  unfold xPay; split <;> infer_instance
omit [FloatOps F] in
instance barPay_storable (c : Dev nD) (j) : BI.Storable (upEmb : UEmb _ 𝕄) (barPay (F := F) c j) := by
  unfold barPay; infer_instance

def kindOf (q : DmaSem sig) : Fin 4 := ⟨(q.val - 4) / 7 % 4, Nat.mod_lt _ (by decide)⟩
def idxOf (q : DmaSem sig) : Fin 7 := ⟨(q.val - 4) % 7, Nat.mod_lt _ (by decide)⟩
theorem kindOf_xsem (k : Fin 4) (j : Fin 7) : kindOf (xsem k j) = k := by revert k j; decide
theorem idxOf_xsem (k : Fin 4) (j : Fin 7) : idxOf (xsem k j) = j := by revert k j; decide

/-- One round per cell: a barrier cell has a duty of one unit per peer, a transfer cell the one duty of its copy. -/
def sched : Rounds.Schedule (GSem nD τ sig) (Fin 7) 𝕄 where
  duties g r := if r = 0 ∧ g.1.2 = .tc then
      (match g.2 with
        | .reg s => if s = barS then Finset.univ else ∅
        | .dma q => if 4 ≤ q.val then {0} else ∅)
    else ∅
  unitless _ := False
  amount g _ _ := match g.2 with | .reg _ => 1 | .dma q => nOf (kindOf q)
  payload g _ d := match g.2 with
    | .reg _ => barPay g.1.1 d
    | .dma q => xPay m g.1.1 (kindOf q) (idxOf q)
  amount_pos g r d _ := by
    rcases hg : g.2 with s | q
    · exact Nat.one_pos
    · exact nOf_pos _

instance sched_payload_storable (g : GSem nD τ sig) (r : ℕ) (d : Fin 7) :
    BI.Storable (upEmb : UEmb _ 𝕄) ((sched (F := F) m).payload g r d) := by
  obtain ⟨t, s | q⟩ := g
  · exact barPay_storable t.1 d
  · exact xPay_storable m t.1 (kindOf q) (idxOf q)

section Sched
variable (c : Dev nD) (k : Fin 4) (j d : Fin 7)

theorem duties_bar : (sched (F := F) m).duties (bar c) 0 = Finset.univ := by
  dsimp only [sched, cell, csem]; rw [if_pos ⟨rfl, rfl⟩, if_pos rfl]
theorem duties_x : (sched (F := F) m).duties (xc k c j) 0 = {0} := by
  dsimp only [sched, cell, csem, osem]
  rw [if_pos ⟨rfl, rfl⟩, if_pos (by show 4 ≤ 4 + 7 * k.val + j.val; omega)]
theorem duties_later (g : GSem nD τ sig) : ∀ r, 1 ≤ r → (sched (F := F) m).duties g r = ∅ :=
  fun r hr => by dsimp only [sched]; rw [if_neg fun h => by omega]
theorem amount_bar : (sched (F := F) m).amount (bar c) 0 d = 1 := rfl
theorem amount_x : (sched (F := F) m).amount (xc k c j) 0 d = nOf k := by
  show nOf (kindOf (xsem k j)) = _; rw [kindOf_xsem]
theorem expect_bar : (sched (F := F) m).expect (bar c) 0 = 7 := by
  unfold Schedule.expect Schedule.amountOf
  rw [duties_bar, Finset.sum_congr rfl fun d _ => amount_bar m c d, Finset.sum_const, Finset.card_univ, Fintype.card_fin, smul_eq_mul]
theorem expect_x : (sched (F := F) m).expect (xc k c j) 0 = nOf k := by
  unfold Schedule.expect Schedule.amountOf; rw [duties_x, Finset.sum_singleton, amount_x]
theorem payload_bar : (sched (F := F) m).payload (bar c) 0 d = barPay c d := rfl
theorem payload_x : (sched (F := F) m).payload (xc k c j) 0 d = xPay m c k j := by
  show xPay m c (kindOf (xsem k j)) (idxOf (xsem k j)) = _; rw [kindOf_xsem, idxOf_xsem]
theorem rest_bar : bigSep ((sched (F := F) m).duties (bar c) 0 \ ∅) (fun d => (sched (F := F) m).payload (bar c) 0 d)
    = bigSep Finset.univ (fun d => barPay (F := F) c d) := by
  rw [Finset.sdiff_empty, duties_bar]; rfl
theorem rest_x : bigSep ((sched (F := F) m).duties (xc k c j) 0 \ ∅) (fun d => (sched (F := F) m).payload (xc k c j) 0 d) = xPay m c k j := by
  rw [Finset.sdiff_empty, duties_x, bigSep_singleton, payload_x]

end Sched

/-! ## What a device owes; the levels -/

/-- A list of units owed to cells, the first to be paid first. -/
def OL : List (GSem nD τ sig × ℕ) → CellTallies nD τ sig Unit
  | [] => 0
  | x :: l => OL l + tallyAt x.1 () x.2

theorem OL_pos {l : List (GSem nD τ sig × ℕ)} {g : GSem nD τ sig} {u : Unit} (h : 0 < OL l g u) : ∃ n, (g, n) ∈ l := by
  induction l with
  | nil => exact absurd h (Nat.lt_irrefl 0)
  | cons x l ih =>
    unfold OL at h
    rw [Pi.add_apply, Finsupp.add_apply, tallyAt_apply] at h
    by_cases hx : g = x.1 ∧ u = ()
    · exact ⟨x.2, by rw [hx.1]; exact List.mem_cons_self⟩
    · rw [if_neg hx, Nat.add_zero] at h
      obtain ⟨n, hn⟩ := ih h
      exact ⟨n, List.mem_cons_of_mem _ hn⟩

/-- The order in which the copies are started. -/
def order : List (Fin 7) := [3, 0, 6, 4, 2, 5, 1]

/-- Device `c` owes each peer one barrier unit, then the receipt of its keys and that of its values. -/
def owedV (c : Dev nD) (js : List (Fin 7)) : List (GSem nD τ sig × ℕ) := js.map fun j => (xc 3 (peer c j) j.rev, NV)
def owedK (c : Dev nD) (js : List (Fin 7)) : List (GSem nD τ sig × ℕ) :=
  js.map (fun j => (xc 1 (peer c j) j.rev, NK)) ++ owedV c order
def owedB (c : Dev nD) (js : List (Fin 7)) : List (GSem nD τ sig × ℕ) :=
  js.map (fun j => (bar (peer c j), 1)) ++ owedK c order

def O₀ (c : Dev nD) : CellTallies nD τ sig Unit := OL (owedB c [0, 1, 2, 3, 4, 5, 6])

def L (g : GSem nD τ sig) : Finset Unit := if g.1.2 = .tc then {()} else ∅
/-- Barrier cells at 1, receipts at 2, everything else at 0. -/
def lv (g : GSem nD τ sig) (_ : Unit) : ℕ :=
  match g.2 with
  | .reg _ => 1
  | .dma q => if 4 ≤ q.val ∧ (kindOf q).val % 2 = 1 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (k : Fin 4) (hk : k.val % 2 = 1) (c : Dev nD) (j : Fin 7) (u : Unit) : lv (xc k c j) u = 2 := by
  dsimp only [lv, cell, csem, osem]
  rw [kindOf_xsem, if_pos ⟨by show 4 ≤ 4 + 7 * k.val + j.val; omega, hk⟩]

theorem owedV_mem {c : Dev nD} {js : List (Fin 7)} {g : GSem nD τ sig} {n : ℕ} (h : (g, n) ∈ owedV c js) :
    ∃ k : Fin 4, k.val % 2 = 1 ∧ ∃ c' j, g = xc k c' j := by
  obtain ⟨j, -, hj⟩ := List.mem_map.mp h
  exact ⟨3, rfl, _, _, (congrArg Prod.fst hj).symm⟩
theorem owedK_mem {c : Dev nD} {js : List (Fin 7)} {g : GSem nD τ sig} {n : ℕ} (h : (g, n) ∈ owedK c js) :
    ∃ k : Fin 4, k.val % 2 = 1 ∧ ∃ c' j, g = xc k c' j := by
  rcases List.mem_append.mp h with h | h
  · obtain ⟨j, -, hj⟩ := List.mem_map.mp h
    exact ⟨1, rfl, _, _, (congrArg Prod.fst hj).symm⟩
  · exact owedV_mem h
theorem owedB_mem {c : Dev nD} {js : List (Fin 7)} {g : GSem nD τ sig} {n : ℕ} (h : (g, n) ∈ owedB c js) :
    (∃ c', g = bar c') ∨ ∃ k : Fin 4, k.val % 2 = 1 ∧ ∃ c' j, g = xc k c' j := by
  rcases List.mem_append.mp h with h | h
  · obtain ⟨j, -, hj⟩ := List.mem_map.mp h
    exact .inl ⟨_, (congrArg Prod.fst hj).symm⟩
  · exact .inr (owedK_mem h)

omit [FloatOps F] in
/-- A staging semaphore may be waited on with everything, or nothing, owed. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        obtain ⟨n, hn⟩ := OL_pos hg
        rcases owedB_mem hn with ⟨c', rfl⟩ | ⟨k, hk, c', j, rfl⟩ <;> exact Finset.mem_singleton_self _)
      (fun p hp => by
        rw [Finset.mem_singleton.mp hp]; dsimp only [lv]; rw [if_neg (fun h => by omega)])
      (fun g u hg => by
        obtain ⟨n, hn⟩ := OL_pos hg
        rcases owedB_mem hn with ⟨c', rfl⟩ | ⟨k, hk, c', j, rfl⟩
        · show 0 < 1; decide
        · rw [lv_recv k hk]; decide)
  · rw [MayWait_zero]; iintro -; iempintro

omit [FloatOps F] in
/-- At its barrier wait a device owes receipts only, and those stand above the barrier. -/
theorem mayWait_bar (c : Dev nD) :
    (levAts L lv : sProp 𝕄) ⊢ MayWait (c : Thread nD τ) (.reg barS) () (OL (owedK c order)) :=
  MayOwe.of_cut (L := L) (lev := lv) 1 (fun p hp => by rw [Finset.mem_singleton.mp hp, L_tc]; exact Finset.mem_singleton_self _)
    (fun g u hg => by
      obtain ⟨n, hn⟩ := OL_pos hg
      obtain ⟨k, hk, c', j, rfl⟩ := owedK_mem hn
      exact Finset.mem_singleton_self _)
    (fun p hp => by rw [Finset.mem_singleton.mp hp]; exact Nat.le_refl 1)
    (fun g u hg => by
      obtain ⟨n, hn⟩ := OL_pos hg
      obtain ⟨k, hk, c', j, rfl⟩ := owedK_mem hn
      rw [lv_recv k hk]; decide)

end Cert.Attn

end
-- ==== Proof.Steps.lean ====
/-
One rule per kind of step of the attention kernel, for any peer: the barrier signal and wait, the start of a key
copy and of a value copy, the wait for a copy, and the loads and stores of slots, slabs and column pieces.
-/
module

public import proofs.«01_k».proof.Proof.Protocol

@[expose] public section

noncomputable section

namespace Cert.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`'s core. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The shared facts: every cell's invariant, and that each has reached its round -/

def recs (K : Dev nD × Option (Fin 4 × Fin 7) → ℕ) : sProp 𝕄 :=
  iprop((bigSep Finset.univ fun p : Dev nD × Option (Fin 4 × Fin 7) => cellInv ER (sched m) (K p) (cell p))
    ∗ bigSep Finset.univ fun p : Dev nD × Option (Fin 4 × Fin 7) => reached ER (cell p) 0)

instance recs_persistent (K : Dev nD × Option (Fin 4 × Fin 7) → ℕ) : BI.Persistent (recs (F := F) m K) := by
  unfold recs; infer_instance

variable (K : Dev nD × Option (Fin 4 × Fin 7) → ℕ)

theorem recs_inv (p : Dev nD × Option (Fin 4 × Fin 7)) : recs (F := F) m K ⊢ cellInv ER (sched m) (K p) (cell p) :=
  Idealize.SL.BI.Laws.sep_elim_left.trans (bigSep_elim (Finset.mem_univ p))
theorem recs_reached (p : Dev nD × Option (Fin 4 × Fin 7)) : recs (F := F) m K ⊢ reached ER (cell p) 0 :=
  Idealize.SL.BI.Laws.sep_elim_right.trans
    (bigSep_elim (Φ := fun p : Dev nD × Option (Fin 4 × Fin 7) => (reached ER (cell p) 0 : sProp 𝕄)) (Finset.mem_univ p))

/-- Device `c` owes the units of the list, whatever it has waited on. -/
def owesX (c : Dev nD) (l : List (GSem nD τ sig × ℕ)) : sProp 𝕄 := iprop(∃ W, owes (c : Thread nD τ) (OL l) W)

/-! ## Signals and the barrier wait -/

/-- What device `c` spends on its signal to the peer of index `j`. -/
def SigRes (c : Dev nD) (j : Fin 7) : sProp 𝕄 :=
  iprop(dutyTok ER (bar (peer c j)) 0 j.rev ∗ (∃ f, kPts (F := F) c j.succ fullShare f) ∗ (∃ f, vPts (F := F) c j.succ fullShare f))

theorem step_signal (c n : Dev nD) (j : Fin 7) (hn : n = peer c j) (l : List (GSem nD τ sig × ℕ)) (u : ℕ) (hu : u = 1)
    {α : Type} {Q : α → sProp 𝕄} {k : PUnit → Prog (TpuEff nD τ sig (Elt F) Λ₀ .tc) α} :
    iprop(recs m K ∗ owesX c ((bar (peer c j), 1) :: l) ∗ SigRes c j)
      ⊢ iprop((owesX c l -∗ wpc c (k ⟨⟩) Q) -∗ wpc c (.op (.semSignal (n : Thread nD τ) barS u) k) Q) := by
  subst hn; subst hu
  unfold SigRes owesX
  iintro ⟨#HR, ⟨%W, HO⟩, Ht, Hk, Hv⟩ Hw
  iapply (Rounds.wp_signal 𝒱₀ ER (sched m) (c : Thread nD τ) none (dst := (peer c j : Thread nD τ)) (κ := K (peer c j, none))
      (d := j.rev) (r := 0) (by show _ ∈ (sched m).duties (bar (peer c j)) 0; rw [duties_bar]; exact Finset.mem_univ _) (amount_bar m (peer c j) j.rev) () (OL l) rfl) $$ [HO Ht Hk Hv]
  · isplitr; · iapply (recs_inv m K (peer c j, none)); iexact HR
    isplitl [HO]; · iexact HO
    isplitl [Ht]; · iexact Ht
    isplitl [Hk Hv]
    · rw [show (sched m).payload ((peer c j : Thread nD τ), SemLoc.reg barS) 0 j.rev = barPay (peer c j) j.rev from rfl]
      unfold barPay; rw [peer_rev, Fin.rev_rev]
      isplitl [Hk] <;> iassumption
    · iapply (recs_reached m K (peer c j, none)); iexact HR
  iintro HO
  iapply Hw
  iexists W; iexact HO

theorem step_barwait (c : Dev nD) (u : ℕ) (hu : u = 7)
    {α : Type} {Q : α → sProp 𝕄} {k : PUnit → Prog (TpuEff nD τ sig (Elt F) Λ₀ .tc) α} :
    iprop(recs m K ∗ levAts L lv ∗ owesX c (owedK c order) ∗ cred (tallyAt (bar c) () 7) ∗ atPos ER (bar c) 0 ∅ 0)
      ⊢ iprop(((owesX c (owedK c order) ∗ atPos ER (bar c) 1 ∅ 0 ∗ bigSep Finset.univ (fun j => barPay c j)) -∗ wpc c (k ⟨⟩) Q)
          -∗ wpc c (.op (.semWait barS u) k) Q) := by
  subst hu
  unfold owesX
  iintro ⟨#HR, #Hlev, ⟨%W, HO⟩, Hc, Hat⟩ Hw
  iapply (Rounds.wp_wait_rest_token 𝒱₀ ER (sched m) (c : Thread nD τ) none (κ := K (c, none))
      (wpE_semWait_eq 𝒱₀ (c : Thread nD τ) none Set.univ) (Set.mem_univ _) () (O := OL (owedK c order)) (W := W) (R := 0) (m := 0) (T := ∅)
      (by rw [Nat.zero_add]; exact (expect_bar m c).symm)) $$ [Hc HO Hat]
  · isplitr; · iapply (recs_inv m K (c, none)); iexact HR
    isplitl [Hc]; · iexact Hc
    isplitl [HO]; · iexact HO
    isplitr; · iapply (mayWait_bar c); iexact Hlev
    iexact Hat
  iintro ⟨HO, Hat, -, Hpay⟩
  ihave Hp := (show bigSep ((sched m).duties ((c : Thread nD τ), SemLoc.reg barS) 0 \ ∅) (fun d => (sched m).payload ((c : Thread nD τ), SemLoc.reg barS) 0 d) ⊢ _ from
    Entails.of_eq (rest_bar m c)) $$ Hpay
  iapply Hw
  isplitl [HO]; · iexists _; iexact HO
  isplitl [Hat]; · iexact Hat
  iexact Hp

/-! ## Starting the copies -/

/-- What device `c` spends on its key copy to the peer of index `j`: the two duties, the slot there, a share of its own. -/
def KSend (c : Dev nD) (j : Fin 7) : sProp 𝕄 :=
  iprop((dutyTok ER (xc 0 c j) 0 0 ∗ dutyTok ER (xc 1 (peer c j) j.rev) 0 0)
    ∗ (∃ f, kPts (F := F) (peer c j) j.rev.succ fullShare f) ∗ kPts c 0 (shareTok fullShare 7 j) (kAll m c))
def VSend (c : Dev nD) (j : Fin 7) : sProp 𝕄 :=
  iprop((dutyTok ER (xc 2 c j) 0 0 ∗ dutyTok ER (xc 3 (peer c j) j.rev) 0 0)
    ∗ (∃ f, vPts (F := F) (peer c j) j.rev.succ fullShare f) ∗ vPts c 0 (shareTok fullShare 7 j) (vAll m c))

/-- A key block written into the slot it is meant for is what that slot should hold. -/
theorem k_landed (c : Dev nD) (j : Fin 7) (fd : Buf (Elt F) ((peer c j : Thread nD τ).loc cc0_scratch0)) :
    (((kSlot j.rev.succ).view.loc (peer c j : Thread nD τ) ↦[(kSlot j.rev.succ).view.set]{fullShare}
        ((kSlot j.rev.succ).view.write (Elt F) fd ((kSlot 0).view.read (Elt F) (kAll m c)) Finset.univ)) : sProp 𝕄)
      = kPts (peer c j) j.rev.succ fullShare (kAll m (peer c j)) := by
  unfold kPts
  rw [← kSlot_set]
  refine pointsTo_congr fun i hi => ?_
  obtain ⟨x, -, rfl⟩ := Finset.mem_map.mp hi
  rw [View.write_emb_of_mem _ _ (Finset.mem_univ _)]
  have h1 := kAll_emb m (peer c j) j.rev.succ
  have h2 := kAll_emb m c 0
  rw [nb_rev] at h1; rw [nb_zero] at h2
  exact (h2 _).trans (h1 _).symm

theorem v_landed (c : Dev nD) (j : Fin 7) (fd : Buf (Elt F) ((peer c j : Thread nD τ).loc cc0_scratch1)) :
    (((vSlab j.rev.succ).view.loc (peer c j : Thread nD τ) ↦[(vSlab j.rev.succ).view.set]{fullShare}
        ((vSlab j.rev.succ).view.write (Elt F) fd ((vSlab 0).view.read (Elt F) (vAll m c)) Finset.univ)) : sProp 𝕄)
      = vPts (peer c j) j.rev.succ fullShare (vAll m (peer c j)) := by
  unfold vPts
  rw [← vSlab_set]
  refine pointsTo_congr fun i hi => ?_
  obtain ⟨x, -, rfl⟩ := Finset.mem_map.mp hi
  rw [View.write_emb_of_mem _ _ (Finset.mem_univ _)]
  have h1 := vAll_emb m (peer c j) j.rev.succ
  have h2 := vAll_emb m c 0
  rw [nb_rev] at h1; rw [nb_zero] at h2
  exact (h2 _).trans (h1 _).symm

theorem step_ksend (c n : Dev nD) (j : Fin 7) (hn : n = peer c j) (s₁ s₂ : DmaSem sig) (h₁ : s₁ = xsem 0 j) (h₂ : s₂ = xsem 1 j.rev)
    (l : List (GSem nD τ sig × ℕ))
    {hsc : (kSlot j.rev.succ : Memref sig (Dev.tc n : Thread nD τ).2.kind .vmem S256x64 .bf16).view.ref.isScScratch = false}
    {hsrc : (kSlot 0).view.WordExact} {hdst : (kSlot j.rev.succ).view.WordExact}
    {hsem : DmaTarget.Typed .vmem (.dma s₂) (.remote (Dev.tc n : Thread nD τ) (kSlot j.rev.succ) (.dma s₁) hsc)}
    {α : Type} {Q : α → sProp 𝕄} {k : PUnit → Prog (TpuEff nD τ sig (Elt F) Λ₀ .tc) α} :
    iprop(recs m K ∗ owesX c ((xc 1 (peer c j) j.rev, NK) :: l) ∗ KSend m c j)
      ⊢ iprop(((cred (tallyAt (xc 0 c j) () NK) ∗ owesX c l) -∗ wpc c (k ⟨⟩) Q)
          -∗ wpc c (.op (.enqueueDma (kSlot 0) (.remote (Dev.tc n : Thread nD τ) (kSlot j.rev.succ) (.dma s₁) hsc) (.dma s₂) hsrc hdst hsem) k) Q) := by
  subst hn; subst h₁; subst h₂
  unfold KSend owesX
  iintro ⟨#HR, ⟨%W, HO⟩, ⟨Ht1, Ht2⟩, ⟨%fd, Hd⟩, Hs⟩ Hw
  iapply (Rounds.wp_send_pointsTo 𝒱₀ ER (sched m) (c : Thread nD τ) none (κ₁ := K (c, some (0, j))) (κ₂ := K (peer c j, some (1, j.rev)))
    (r₁ := 0) (r₂ := 0) (d₁ := 0) (d₂ := 0) (fs := kAll m c) (fd := fd) (q := shareTok fullShare 7 j)
    (by show _ ∈ (sched m).duties (xc 0 c j) 0; rw [duties_x]; exact Finset.mem_singleton_self _)
    (by show _ ∈ (sched m).duties (xc 1 (peer c j) j.rev) 0; rw [duties_x]; exact Finset.mem_singleton_self _)
    () () NK (by exact kSlot_credit _) ((amount_x m c 0 j 0).trans nOf_0) ((amount_x m (peer c j) 1 j.rev 0).trans nOf_1) (OL l) (by rfl) (W := W)
    (by show _ ⊢ (sched m).payload (xc 0 c j) 0 0
        rw [payload_x]; unfold xPay kPts; rw [kSlot_set])
    (by show _ ⊢ (sched m).payload (xc 1 (peer c j) j.rev) 0 0
        rw [payload_x]; exact Entails.of_eq (k_landed m c j fd))) $$ [HO Ht1 Ht2 Hd Hs]
  · isplitr; · iapply (recs_inv m K (c, some (0, j))); iexact HR
    isplitr; · iapply (recs_inv m K (peer c j, some (1, j.rev))); iexact HR
    isplitl [Hs]; · unfold kPts; rw [kSlot_set]; iexact Hs
    isplitl [Hd]; · unfold kPts; rw [kSlot_set]; iexact Hd
    isplitl [HO]; · iexact HO
    isplitl [Ht1]; · iexact Ht1
    isplitr; · iapply (recs_reached m K (c, some (0, j))); iexact HR
    isplitl [Ht2]; · iexact Ht2
    iapply (recs_reached m K (peer c j, some (1, j.rev))); iexact HR
  iintro ⟨Hc, HO⟩
  iapply Hw
  isplitl [Hc]; · iexact Hc
  iexists W; iexact HO

theorem step_vsend (c n : Dev nD) (j : Fin 7) (hn : n = peer c j) (s₁ s₂ : DmaSem sig) (h₁ : s₁ = xsem 2 j) (h₂ : s₂ = xsem 3 j.rev)
    (l : List (GSem nD τ sig × ℕ))
    {hsc : (vSlab j.rev.succ : Memref sig (Dev.tc n : Thread nD τ).2.kind .vmem S256x64 .bf16).view.ref.isScScratch = false}
    {hsrc : (vSlab 0).view.WordExact} {hdst : (vSlab j.rev.succ).view.WordExact}
    {hsem : DmaTarget.Typed .vmem (.dma s₂) (.remote (Dev.tc n : Thread nD τ) (vSlab j.rev.succ) (.dma s₁) hsc)}
    {α : Type} {Q : α → sProp 𝕄} {k : PUnit → Prog (TpuEff nD τ sig (Elt F) Λ₀ .tc) α} :
    iprop(recs m K ∗ owesX c ((xc 3 (peer c j) j.rev, NV) :: l) ∗ VSend m c j)
      ⊢ iprop(((cred (tallyAt (xc 2 c j) () NV) ∗ owesX c l) -∗ wpc c (k ⟨⟩) Q)
          -∗ wpc c (.op (.enqueueDma (vSlab 0) (.remote (Dev.tc n : Thread nD τ) (vSlab j.rev.succ) (.dma s₁) hsc) (.dma s₂) hsrc hdst hsem) k) Q) := by
  subst hn; subst h₁; subst h₂
  unfold VSend owesX
  iintro ⟨#HR, ⟨%W, HO⟩, ⟨Ht1, Ht2⟩, ⟨%fd, Hd⟩, Hs⟩ Hw
  iapply (Rounds.wp_send_pointsTo 𝒱₀ ER (sched m) (c : Thread nD τ) none (κ₁ := K (c, some (2, j))) (κ₂ := K (peer c j, some (3, j.rev)))
    (r₁ := 0) (r₂ := 0) (d₁ := 0) (d₂ := 0) (fs := vAll m c) (fd := fd) (q := shareTok fullShare 7 j)
    (by show _ ∈ (sched m).duties (xc 2 c j) 0; rw [duties_x]; exact Finset.mem_singleton_self _)
    (by show _ ∈ (sched m).duties (xc 3 (peer c j) j.rev) 0; rw [duties_x]; exact Finset.mem_singleton_self _)
    () () NV (by exact vSlab_credit _) ((amount_x m c 2 j 0).trans nOf_2) ((amount_x m (peer c j) 3 j.rev 0).trans nOf_3) (OL l) (by rfl) (W := W)
    (by show _ ⊢ (sched m).payload (xc 2 c j) 0 0
        rw [payload_x]; unfold xPay vPts; rw [vSlab_set])
    (by show _ ⊢ (sched m).payload (xc 3 (peer c j) j.rev) 0 0
        rw [payload_x]; exact Entails.of_eq (v_landed m c j fd))) $$ [HO Ht1 Ht2 Hd Hs]
  · isplitr; · iapply (recs_inv m K (c, some (2, j))); iexact HR
    isplitr; · iapply (recs_inv m K (peer c j, some (3, j.rev))); iexact HR
    isplitl [Hs]; · unfold vPts; rw [vSlab_set]; iexact Hs
    isplitl [Hd]; · unfold vPts; rw [vSlab_set]; iexact Hd
    isplitl [HO]; · iexact HO
    isplitl [Ht1]; · iexact Ht1
    isplitr; · iapply (recs_reached m K (c, some (2, j))); iexact HR
    isplitl [Ht2]; · iexact Ht2
    iapply (recs_reached m K (peer c j, some (3, j.rev))); iexact HR
  iintro ⟨Hc, HO⟩
  iapply Hw
  isplitl [Hc]; · iexact Hc
  iexists W; iexact HO

/-! ## Waiting for a copy -/

/-- What device `c` needs to wait on a transfer cell, and what it has afterwards. -/
def WaitRes (c : Dev nD) (k : Fin 4) (j : Fin 7) : sProp 𝕄 := iprop(atPos ER (xc k c j) 0 ∅ 0 ∗ cred (tallyAt (xc k c j) () (nOf k)))
def Done (c : Dev nD) (k : Fin 4) (j : Fin 7) : sProp 𝕄 := iprop(atPos ER (xc k c j) 1 ∅ 0 ∗ xPay m c k j)

theorem step_wait (c : Dev nD) (κ : Fin 4) (j : Fin 7) (s : DmaSem sig) (hs : s = xsem κ j)
    {src : Memref sig .tc .vmem S256x64 .bf16} {dst : Memref sig .tc .vmem S256x64 .bf16} {hsrc : src.view.WordExact} {hdst : dst.view.WordExact}
    (hN : dst.view.dmaCredit = nOf κ)
    {α : Type} {Q : α → sProp 𝕄} {k : PUnit → Prog (TpuEff nD τ sig (Elt F) Λ₀ .tc) α} :
    iprop(recs m K ∗ owesX c [] ∗ WaitRes c κ j)
      ⊢ iprop(((owesX c [] ∗ atPos ER (xc κ c j) 1 ∅ 0 ∗ xPay m c κ j) -∗ wpc c (k ⟨⟩) Q) -∗ wpc c (.op (.waitDma2 s src dst hsrc hdst) k) Q) := by
  subst hs
  unfold owesX WaitRes
  iintro ⟨#HR, ⟨%W, HO⟩, Hat, Hc⟩ Hw
  iapply (Rounds.wp_wait_rest_token 𝒱₀ ER (sched m) (c : Thread nD τ) none (κ := K (c, some (κ, j)))
      (wpE_waitDma2_eq 𝒱₀ (c : Thread nD τ) none Set.univ) (Set.mem_univ _) () (O := OL []) (W := W) (R := 0) (m := 0) (T := ∅)
      (by rw [Nat.zero_add, hN]; exact (expect_x m c κ j).symm)) $$ [Hc HO Hat]
  · isplitr; · iapply (recs_inv m K (c, some (κ, j))); iexact HR
    isplitl [Hc]; · rw [hN]; iexact Hc
    isplitl [HO]; · iexact HO
    isplitr
    · rw [show OL [] = 0 from rfl, MayWait_zero]; iempintro
    iexact Hat
  iintro ⟨HO, Hat, -, Hpay⟩
  ihave Hp := (show bigSep ((sched m).duties ((c : Thread nD τ), SemLoc.dma (xsem κ j)) 0 \ ∅)
      (fun d => (sched m).payload ((c : Thread nD τ), SemLoc.dma (xsem κ j)) 0 d) ⊢ _ from
    Entails.of_eq (rest_x m c κ j)) $$ Hpay
  iapply Hw
  isplitl [HO]; · iexists _; iexact HO
  isplitl [Hat]; · iexact Hat
  iexact Hp

/-! ## The end of a program -/

theorem step_ret (c : Dev nD) {α : Type} {Q : α → sProp 𝕄} (a : α) : Q a ⊢ wpc c (.ret a) Q := by
  show _ ⊢ wp _ _ _ _ _
  rw [wp_ret]
  iintro H
  imodintro
  iexact H

theorem step_ret_fupd (c : Dev nD) {α : Type} {Q : α → sProp 𝕄} (a : α) : (|={Set.univ}=> Q a) ⊢ wpc c (.ret a) Q := by
  show _ ⊢ wp _ _ _ _ _
  rw [wp_ret]

/-! ## Loads and stores -/

theorem zero2 : (![0, 0] : Fin 2 → Nat) = fun _ => 0 := funext fun a => by fin_cases a <;> rfl

/-- A load whose outcome is known, the whole buffer at hand. -/
theorem step_load_eq (c : Dev nD) {s : Shape} {e : EltTy} (M : Memref sig .tc .vmem s e) (r : LoadRect s) (q : PosShare TreeShare)
    (X : Buf (Elt F) (M.view.loc (c : Thread nD τ))) {v : r.shape.Idx → Elt F e} (hv : M.view.readAt (Elt F) r X = v)
    {hl : M.view.LoadsAt r}
    {α : Type} {Q : α → sProp 𝕄} {k : (r.shape.Idx → Elt F e) → Prog (TpuEff nD τ sig (Elt F) Λ₀ .tc) α} :
    ((M.view.loc (c : Thread nD τ)) ↦{q} X) ⊢ iprop((((M.view.loc (c : Thread nD τ)) ↦{q} X) -∗ wpc c (k v) Q)
      -∗ wpc c (.op (.load M r hl) k) Q) := by
  subst hv
  exact wp_load 𝒱₀ (c : Thread nD τ) none Set.univ (m := M) (r := r) (Finset.subset_univ _)

/-- A store whose outcome is known, the whole buffer at hand. -/
theorem step_store_eq (c : Dev nD) {s : Shape} {e : EltTy} (M : Memref sig .tc .vmem s e) (r : Rect s)
    (X Y : Buf (Elt F) (M.view.loc (c : Thread nD τ))) {w : r.shape.Idx → Elt F e} (hv : (M.access r).write (Elt F) X w Finset.univ = Y)
    {hx : (M.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    ((M.view.loc (c : Thread nD τ)) ↦{fullShare} X) ⊢ iprop((((M.view.loc (c : Thread nD τ)) ↦{fullShare} Y) -∗ wpc c (k ⟨⟩) Q)
      -∗ wpc c (.op (.store M r w Finset.univ hx hm) k) Q) := by
  subst hv
  exact wp_store 𝒱₀ (c : Thread nD τ) none Set.univ (m := M) (r := r) (Mk := Finset.univ) (Finset.subset_univ _)

/-- The load of the staged queries. -/
theorem step_qin (c : Dev nD) (q : PosShare TreeShare) (X : Buf (Elt F) ((c : Thread nD τ).loc cc0_stg0_0))
    {hl : (Memref.whole cc0_stg0_0 : Memref sig .tc .vmem S256x64 .f32).view.LoadsAt (Rect.unit (s := S256x64) ![0, 0] S256x64.size inb_S256x64_S256x64_0_0).toLoadRect}
    {α : Type} {Q : α → sProp 𝕄} {k : (S256x64.Idx → Elt F .f32) → Prog (TpuEff nD τ sig (Elt F) Λ₀ .tc) α} :
    (((c : Thread nD τ).loc cc0_stg0_0) ↦{q} X) ⊢ iprop(((((c : Thread nD τ).loc cc0_stg0_0) ↦{q} X) -∗ wpc c (k X) Q)
      -∗ wpc c (.op (.load (Memref.whole cc0_stg0_0 : Memref sig .tc .vmem S256x64 .f32) (Rect.unit (s := S256x64) ![0, 0] S256x64.size inb_S256x64_S256x64_0_0).toLoadRect hl) k) Q) := by
  have hv : (Memref.whole cc0_stg0_0 : Memref sig .tc .vmem S256x64 .f32).view.readAt (Elt F)
      (Rect.unit (s := S256x64) ![0, 0] S256x64.size inb_S256x64_S256x64_0_0).toLoadRect X = X := Memref.readAt_unit_zero (Elt F) cc0_stg0_0 zero2 _ X
  have h := step_load_eq c (Memref.whole cc0_stg0_0 : Memref sig .tc .vmem S256x64 .f32)
    (Rect.unit (s := S256x64) ![0, 0] S256x64.size inb_S256x64_S256x64_0_0).toLoadRect q X hv (hl := hl) (Q := Q) (k := k)
  exact h

/-- The load of the staged keys. -/
theorem step_kin (c : Dev nD) (q : PosShare TreeShare) (X : Buf (Elt F) ((c : Thread nD τ).loc cc0_stg1_0))
    {hl : (Memref.whole cc0_stg1_0 : Memref sig .tc .vmem S256x64 .f32).view.LoadsAt (Rect.unit (s := S256x64) ![0, 0] S256x64.size inb_S256x64_S256x64_0_0).toLoadRect}
    {α : Type} {Q : α → sProp 𝕄} {k : (S256x64.Idx → Elt F .f32) → Prog (TpuEff nD τ sig (Elt F) Λ₀ .tc) α} :
    (((c : Thread nD τ).loc cc0_stg1_0) ↦{q} X) ⊢ iprop(((((c : Thread nD τ).loc cc0_stg1_0) ↦{q} X) -∗ wpc c (k X) Q)
      -∗ wpc c (.op (.load (Memref.whole cc0_stg1_0 : Memref sig .tc .vmem S256x64 .f32) (Rect.unit (s := S256x64) ![0, 0] S256x64.size inb_S256x64_S256x64_0_0).toLoadRect hl) k) Q) := by
  have hv : (Memref.whole cc0_stg1_0 : Memref sig .tc .vmem S256x64 .f32).view.readAt (Elt F)
      (Rect.unit (s := S256x64) ![0, 0] S256x64.size inb_S256x64_S256x64_0_0).toLoadRect X = X := Memref.readAt_unit_zero (Elt F) cc0_stg1_0 zero2 _ X
  have h := step_load_eq c (Memref.whole cc0_stg1_0 : Memref sig .tc .vmem S256x64 .f32)
    (Rect.unit (s := S256x64) ![0, 0] S256x64.size inb_S256x64_S256x64_0_0).toLoadRect q X hv (hl := hl) (Q := Q) (k := k)
  exact h

/-- The load of the staged values. -/
theorem step_vin (c : Dev nD) (q : PosShare TreeShare) (X : Buf (Elt F) ((c : Thread nD τ).loc cc0_stg2_0))
    {hl : (Memref.whole cc0_stg2_0 : Memref sig .tc .vmem S256x64 .f32).view.LoadsAt (Rect.unit (s := S256x64) ![0, 0] S256x64.size inb_S256x64_S256x64_0_0).toLoadRect}
    {α : Type} {Q : α → sProp 𝕄} {k : (S256x64.Idx → Elt F .f32) → Prog (TpuEff nD τ sig (Elt F) Λ₀ .tc) α} :
    (((c : Thread nD τ).loc cc0_stg2_0) ↦{q} X) ⊢ iprop(((((c : Thread nD τ).loc cc0_stg2_0) ↦{q} X) -∗ wpc c (k X) Q)
      -∗ wpc c (.op (.load (Memref.whole cc0_stg2_0 : Memref sig .tc .vmem S256x64 .f32) (Rect.unit (s := S256x64) ![0, 0] S256x64.size inb_S256x64_S256x64_0_0).toLoadRect hl) k) Q) := by
  have hv : (Memref.whole cc0_stg2_0 : Memref sig .tc .vmem S256x64 .f32).view.readAt (Elt F)
      (Rect.unit (s := S256x64) ![0, 0] S256x64.size inb_S256x64_S256x64_0_0).toLoadRect X = X := Memref.readAt_unit_zero (Elt F) cc0_stg2_0 zero2 _ X
  have h := step_load_eq c (Memref.whole cc0_stg2_0 : Memref sig .tc .vmem S256x64 .f32)
    (Rect.unit (s := S256x64) ![0, 0] S256x64.size inb_S256x64_S256x64_0_0).toLoadRect q X hv (hl := hl) (Q := Q) (k := k)
  exact h

/-- The load of the staged result. -/
theorem step_oload (c : Dev nD) (q : PosShare TreeShare) (X : Buf (Elt F) ((c : Thread nD τ).loc cc0_stg3_0))
    {hl : (Memref.whole cc0_stg3_0 : Memref sig .tc .vmem S256x64 .f32).view.LoadsAt (Rect.unit (s := S256x64) ![0, 0] S256x64.size inb_S256x64_S256x64_0_0).toLoadRect}
    {α : Type} {Q : α → sProp 𝕄} {k : (S256x64.Idx → Elt F .f32) → Prog (TpuEff nD τ sig (Elt F) Λ₀ .tc) α} :
    (((c : Thread nD τ).loc cc0_stg3_0) ↦{q} X) ⊢ iprop(((((c : Thread nD τ).loc cc0_stg3_0) ↦{q} X) -∗ wpc c (k X) Q)
      -∗ wpc c (.op (.load (Memref.whole cc0_stg3_0 : Memref sig .tc .vmem S256x64 .f32) (Rect.unit (s := S256x64) ![0, 0] S256x64.size inb_S256x64_S256x64_0_0).toLoadRect hl) k) Q) := by
  have hv : (Memref.whole cc0_stg3_0 : Memref sig .tc .vmem S256x64 .f32).view.readAt (Elt F)
      (Rect.unit (s := S256x64) ![0, 0] S256x64.size inb_S256x64_S256x64_0_0).toLoadRect X = X := Memref.readAt_unit_zero (Elt F) cc0_stg3_0 zero2 _ X
  have h := step_load_eq c (Memref.whole cc0_stg3_0 : Memref sig .tc .vmem S256x64 .f32)
    (Rect.unit (s := S256x64) ![0, 0] S256x64.size inb_S256x64_S256x64_0_0).toLoadRect q X hv (hl := hl) (Q := Q) (k := k)
  exact h

/-- The load of all values. -/
theorem step_vall (c : Dev nD) (q : PosShare TreeShare) (X : Buf (Elt F) ((c : Thread nD τ).loc cc0_scratch1))
    {hl : (Memref.whole cc0_scratch1 : Memref sig .tc .vmem S2048x64 .bf16).view.LoadsAt (Rect.unit (s := S2048x64) ![0, 0] S2048x64.size inb_S2048x64_S2048x64_0_0).toLoadRect}
    {α : Type} {Q : α → sProp 𝕄} {k : (S2048x64.Idx → Elt F .bf16) → Prog (TpuEff nD τ sig (Elt F) Λ₀ .tc) α} :
    (((c : Thread nD τ).loc cc0_scratch1) ↦{q} X) ⊢ iprop(((((c : Thread nD τ).loc cc0_scratch1) ↦{q} X) -∗ wpc c (k X) Q)
      -∗ wpc c (.op (.load (Memref.whole cc0_scratch1 : Memref sig .tc .vmem S2048x64 .bf16) (Rect.unit (s := S2048x64) ![0, 0] S2048x64.size inb_S2048x64_S2048x64_0_0).toLoadRect hl) k) Q) := by
  have hv : (Memref.whole cc0_scratch1 : Memref sig .tc .vmem S2048x64 .bf16).view.readAt (Elt F)
      (Rect.unit (s := S2048x64) ![0, 0] S2048x64.size inb_S2048x64_S2048x64_0_0).toLoadRect X = X := Memref.readAt_unit_zero (Elt F) cc0_scratch1 zero2 _ X
  have h := step_load_eq c (Memref.whole cc0_scratch1 : Memref sig .tc .vmem S2048x64 .bf16)
    (Rect.unit (s := S2048x64) ![0, 0] S2048x64.size inb_S2048x64_S2048x64_0_0).toLoadRect q X hv (hl := hl) (Q := Q) (k := k)
  exact h

/-- The load of all exponentials. -/
theorem step_pall (c : Dev nD) (q : PosShare TreeShare) (X : Buf (Elt F) ((c : Thread nD τ).loc cc0_scratch2))
    {hl : (Memref.whole cc0_scratch2 : Memref sig .tc .vmem S256x2048 .bf16).view.LoadsAt (Rect.unit (s := S256x2048) ![0, 0] S256x2048.size inb_S256x2048_S256x2048_0_0).toLoadRect}
    {α : Type} {Q : α → sProp 𝕄} {k : (S256x2048.Idx → Elt F .bf16) → Prog (TpuEff nD τ sig (Elt F) Λ₀ .tc) α} :
    (((c : Thread nD τ).loc cc0_scratch2) ↦{q} X) ⊢ iprop(((((c : Thread nD τ).loc cc0_scratch2) ↦{q} X) -∗ wpc c (k X) Q)
      -∗ wpc c (.op (.load (Memref.whole cc0_scratch2 : Memref sig .tc .vmem S256x2048 .bf16) (Rect.unit (s := S256x2048) ![0, 0] S256x2048.size inb_S256x2048_S256x2048_0_0).toLoadRect hl) k) Q) := by
  have hv : (Memref.whole cc0_scratch2 : Memref sig .tc .vmem S256x2048 .bf16).view.readAt (Elt F)
      (Rect.unit (s := S256x2048) ![0, 0] S256x2048.size inb_S256x2048_S256x2048_0_0).toLoadRect X = X := Memref.readAt_unit_zero (Elt F) cc0_scratch2 zero2 _ X
  have h := step_load_eq c (Memref.whole cc0_scratch2 : Memref sig .tc .vmem S256x2048 .bf16)
    (Rect.unit (s := S256x2048) ![0, 0] S256x2048.size inb_S256x2048_S256x2048_0_0).toLoadRect q X hv (hl := hl) (Q := Q) (k := k)
  exact h

/-- The store of the result. -/
theorem step_ostore (c : Dev nD) (X : Buf (Elt F) ((c : Thread nD τ).loc cc0_stg3_0)) (w : S256x64.Idx → Elt F .f32)
    {hx : (oM.access (Rect.unit (s := S256x64) ![0, 0] S256x64.size inb_S256x64_S256x64_0_0)).Stores Finset.univ}
    {hm : (Finset.univ : Finset (Rect.unit (s := S256x64) ![0, 0] S256x64.size inb_S256x64_S256x64_0_0).shape.Idx) = Finset.univ
      ∨ ∀ a, (Rect.unit (s := S256x64) ![0, 0] S256x64.size inb_S256x64_S256x64_0_0).stride a = 1}
    {α : Type} {Q : α → sProp 𝕄} {k : PUnit → Prog (TpuEff nD τ sig (Elt F) Λ₀ .tc) α} :
    (((c : Thread nD τ).loc cc0_stg3_0) ↦{fullShare} X) ⊢ iprop(((((c : Thread nD τ).loc cc0_stg3_0) ↦{fullShare} w) -∗ wpc c (k ⟨⟩) Q)
      -∗ wpc c (.op (.store oM (Rect.unit (s := S256x64) ![0, 0] S256x64.size inb_S256x64_S256x64_0_0) w Finset.univ hx hm) k) Q) :=
  step_store_eq c oM _ X w (Memref.write_access_unit_zero_univ (Elt F) cc0_stg3_0 zero2 _ X w)

/-- A load of slot `o`, its contents of no interest. -/
theorem step_kload (c : Dev nD) (o : Fin 8) (q : PosShare TreeShare) (f : Buf (Elt F) ((c : Thread nD τ).loc cc0_scratch0))
    {hl : kM.view.LoadsAt (kRect o).toLoadRect}
    {α : Type} {Q : α → sProp 𝕄} {k : (S1x256x64.Idx → Elt F .bf16) → Prog (TpuEff nD τ sig (Elt F) Λ₀ .tc) α} :
    kPts c o q f ⊢ iprop((kPts c o q f -∗ wpc c (k (fun y => f ((kRect o).emb y))) Q)
      -∗ wpc c (.op (.load kM (kRect o).toLoadRect hl) k) Q) := by
  unfold kPts
  exact wp_load_rect 𝒱₀ (c : Thread nD τ) none Set.univ (m := kM) (r := kRect o) (by
    rw [show (kM.access (kRect o)).set = (kRect o).set from View.set_slice_whole _ _])

/-- A load of slot `o` once filled. -/
theorem step_kload_all (c : Dev nD) (o : Fin 8) (q : PosShare TreeShare)
    {hl : kM.view.LoadsAt (kRect o).toLoadRect}
    {α : Type} {Q : α → sProp 𝕄} {k : (S1x256x64.Idx → Elt F .bf16) → Prog (TpuEff nD τ sig (Elt F) Λ₀ .tc) α} :
    kPts c o q (kAll m c) ⊢ iprop((kPts c o q (kAll m c) -∗ wpc c (k (kB m (nb c o))) Q)
      -∗ wpc c (.op (.load kM (kRect o).toLoadRect hl) k) Q) := by
  have h := step_kload c o q (kAll m c) (hl := hl) (k := k) (Q := Q)
  have e : (fun y : S1x256x64.Idx => kAll m c ((kRect o).emb y)) = kB m (nb c o) := funext (kAll_emb m c o)
  exact e ▸ h

/-- A load of the slot that peer `j` filled, by what its wait gave. -/
theorem step_kload_x (c : Dev nD) (j : Fin 7) (o : Fin 8) (ho : j.succ = o)
    {hl : kM.view.LoadsAt (kRect o).toLoadRect}
    {α : Type} {Q : α → sProp 𝕄} {k : (S1x256x64.Idx → Elt F .bf16) → Prog (TpuEff nD τ sig (Elt F) Λ₀ .tc) α} :
    xPay m c 1 j ⊢ iprop((xPay m c 1 j -∗ wpc c (k (kB m (nb c o))) Q)
      -∗ wpc c (.op (.load kM (kRect o).toLoadRect hl) k) Q) := by
  subst ho
  exact step_kload_all m c j.succ fullShare

/-- Storing its own keys into slot 0. -/
theorem step_kstore (c : Dev nD) (f : Buf (Elt F) ((c : Thread nD τ).loc cc0_scratch0)) (w : S1x256x64.Idx → Elt F .bf16) (hw : w = kB m c)
    {hx : (kM.access (kRect 0)).Stores Finset.univ} {hm : (Finset.univ : Finset (kRect 0).shape.Idx) = Finset.univ ∨ ∀ a, (kRect 0).stride a = 1}
    {α : Type} {Q : α → sProp 𝕄} {k : PUnit → Prog (TpuEff nD τ sig (Elt F) Λ₀ .tc) α} :
    kPts c 0 fullShare f ⊢ iprop((kPts c 0 fullShare (kAll m c) -∗ wpc c (k ⟨⟩) Q)
      -∗ wpc c (.op (.store kM (kRect 0) w Finset.univ hx hm) k) Q) := by
  subst hw
  have hS : (kM.access (kRect 0)).set = (kRect 0).set := View.set_slice_whole _ _
  have e : (((c : Thread nD τ).loc cc0_scratch0 ↦[(kRect 0).set]{fullShare} ((kM.access (kRect 0)).write (Elt F) f (kB m c) Finset.univ)) : sProp 𝕄)
      = kPts c 0 fullShare (kAll m c) := by
    unfold kPts
    refine pointsTo_congr fun i hi => ?_
    rw [← hS] at hi
    obtain ⟨x, -, rfl⟩ := Finset.mem_map.mp hi
    rw [View.write_emb_of_mem _ _ (Finset.mem_univ _)]
    have h2 := kAll_emb m c 0
    rw [nb_zero] at h2
    exact (h2 x).symm
  rw [← e]
  unfold kPts
  exact wp_store 𝒱₀ (c : Thread nD τ) none Set.univ (m := kM) (r := kRect 0) (Mk := Finset.univ) (by rw [View.setOn_univ, hS])

/-- A load of slab `o`, its contents of no interest. -/
theorem step_vload (c : Dev nD) (o : Fin 8) (q : PosShare TreeShare) (f : Buf (Elt F) ((c : Thread nD τ).loc cc0_scratch1))
    {hl : vM.view.LoadsAt (vRect o).toLoadRect}
    {α : Type} {Q : α → sProp 𝕄} {k : (S256x64.Idx → Elt F .bf16) → Prog (TpuEff nD τ sig (Elt F) Λ₀ .tc) α} :
    vPts c o q f ⊢ iprop((vPts c o q f -∗ wpc c (k (fun y => f ((vRect o).emb y))) Q)
      -∗ wpc c (.op (.load vM (vRect o).toLoadRect hl) k) Q) := by
  unfold vPts
  exact wp_load_rect 𝒱₀ (c : Thread nD τ) none Set.univ (m := vM) (r := vRect o) (by
    rw [show (vM.access (vRect o)).set = (vRect o).set from View.set_slice_whole _ _])

/-- Storing its own values into slab 0. -/
theorem step_vstore (c : Dev nD) (f : Buf (Elt F) ((c : Thread nD τ).loc cc0_scratch1)) (w : S256x64.Idx → Elt F .bf16) (hw : w = vB m c)
    {hx : (vM.access (vRect 0)).Stores Finset.univ} {hm : (Finset.univ : Finset (vRect 0).shape.Idx) = Finset.univ ∨ ∀ a, (vRect 0).stride a = 1}
    {α : Type} {Q : α → sProp 𝕄} {k : PUnit → Prog (TpuEff nD τ sig (Elt F) Λ₀ .tc) α} :
    vPts c 0 fullShare f ⊢ iprop((vPts c 0 fullShare (vAll m c) -∗ wpc c (k ⟨⟩) Q)
      -∗ wpc c (.op (.store vM (vRect 0) w Finset.univ hx hm) k) Q) := by
  subst hw
  have hS : (vM.access (vRect 0)).set = (vRect 0).set := View.set_slice_whole _ _
  have e : (((c : Thread nD τ).loc cc0_scratch1 ↦[(vRect 0).set]{fullShare} ((vM.access (vRect 0)).write (Elt F) f (vB m c) Finset.univ)) : sProp 𝕄)
      = vPts c 0 fullShare (vAll m c) := by
    unfold vPts
    refine pointsTo_congr fun i hi => ?_
    rw [← hS] at hi
    obtain ⟨x, -, rfl⟩ := Finset.mem_map.mp hi
    rw [View.write_emb_of_mem _ _ (Finset.mem_univ _)]
    have h2 := vAll_emb m c 0
    rw [nb_zero] at h2
    exact (h2 x).symm
  rw [← e]
  unfold vPts
  exact wp_store 𝒱₀ (c : Thread nD τ) none Set.univ (m := vM) (r := vRect 0) (Mk := Finset.univ) (by rw [View.setOn_univ, hS])

/-- The score of the block at distance `o`: a load of no interest, then the store of the column piece. -/
theorem step_pload (c : Dev nD) (o : Fin 8) (f : Buf (Elt F) ((c : Thread nD τ).loc cc0_scratch2))
    {hl : pM.view.LoadsAt (pRect o).toLoadRect}
    {α : Type} {Q : α → sProp 𝕄} {k : (S256x256.Idx → Elt F .bf16) → Prog (TpuEff nD τ sig (Elt F) Λ₀ .tc) α} :
    pPts c o fullShare f ⊢ iprop((pPts c o fullShare f -∗ wpc c (k (fun y => f ((pRect o).emb y))) Q)
      -∗ wpc c (.op (.load pM (pRect o).toLoadRect hl) k) Q) := by
  unfold pPts
  exact wp_load_rect 𝒱₀ (c : Thread nD τ) none Set.univ (m := pM) (r := pRect o) (by
    rw [show (pM.access (pRect o)).set = (pRect o).set from View.set_slice_whole _ _])

theorem step_pstore (c : Dev nD) (o : Fin 8) (f : Buf (Elt F) ((c : Thread nD τ).loc cc0_scratch2)) (w : S256x256.Idx → Elt F .bf16)
    (hw : w = k0_pay4 (qB m c) (kB m (nb c o)))
    {hx : (pM.access (pRect o)).Stores Finset.univ} {hm : (Finset.univ : Finset (pRect o).shape.Idx) = Finset.univ ∨ ∀ a, (pRect o).stride a = 1}
    {α : Type} {Q : α → sProp 𝕄} {k : PUnit → Prog (TpuEff nD τ sig (Elt F) Λ₀ .tc) α} :
    pPts c o fullShare f ⊢ iprop((pPts c o fullShare (pAll m c) -∗ wpc c (k ⟨⟩) Q)
      -∗ wpc c (.op (.store pM (pRect o) w Finset.univ hx hm) k) Q) := by
  subst hw
  have hS : (pM.access (pRect o)).set = (pRect o).set := View.set_slice_whole _ _
  have e : (((c : Thread nD τ).loc cc0_scratch2 ↦[(pRect o).set]{fullShare}
        ((pM.access (pRect o)).write (Elt F) f (k0_pay4 (qB m c) (kB m (nb c o))) Finset.univ)) : sProp 𝕄)
      = pPts c o fullShare (pAll m c) := by
    unfold pPts
    refine pointsTo_congr fun i hi => ?_
    rw [← hS] at hi
    obtain ⟨x, -, rfl⟩ := Finset.mem_map.mp hi
    rw [View.write_emb_of_mem _ _ (Finset.mem_univ _)]
    exact (pAll_emb m c o x).symm
  rw [← e]
  unfold pPts
  exact wp_store 𝒱₀ (c : Thread nD τ) none Set.univ (m := pM) (r := pRect o) (Mk := Finset.univ) (by rw [View.setOn_univ, hS])

end Cert.Attn

end
-- ==== Proof.PartsA.lean ====
/-
The first half of the kernel body, part by part: the barrier, the device's own blocks stored, the copies started.
-/
module

public import proofs.«01_k».proof.Proof.Steps

@[expose] public section

noncomputable section

namespace Cert.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable (K : Dev nD × Option (Fin 4 × Fin 7) → ℕ)

/-! ## The devices the kernel names -/

theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 3 := by revert c; decide +kernel
theorem dev9_eq (c : Dev nD) : (⟨k0_dev9 c, k0_dev9_lt c⟩ : Dev nD) = peer c 0 := by revert c; decide +kernel
theorem dev10_eq (c : Dev nD) : (⟨k0_dev10 c, k0_dev10_lt c⟩ : Dev nD) = peer c 6 := by revert c; decide +kernel
theorem dev11_eq (c : Dev nD) : (⟨k0_dev11 c, k0_dev11_lt c⟩ : Dev nD) = peer c 4 := by revert c; decide +kernel
theorem dev12_eq (c : Dev nD) : (⟨k0_dev12 c, k0_dev12_lt c⟩ : Dev nD) = peer c 2 := by revert c; decide +kernel
theorem dev13_eq (c : Dev nD) : (⟨k0_dev13 c, k0_dev13_lt c⟩ : Dev nD) = peer c 5 := by revert c; decide +kernel
theorem dev14_eq (c : Dev nD) : (⟨k0_dev14 c, k0_dev14_lt c⟩ : Dev nD) = peer c 1 := by revert c; decide +kernel
theorem dev15_eq (c : Dev nD) : (⟨k0_dev15 c, k0_dev15_lt c⟩ : Dev nD) = peer c 3 := by revert c; decide +kernel
theorem dev16_eq (c : Dev nD) : (⟨k0_dev16 c, k0_dev16_lt c⟩ : Dev nD) = peer c 0 := by revert c; decide +kernel
theorem dev17_eq (c : Dev nD) : (⟨k0_dev17 c, k0_dev17_lt c⟩ : Dev nD) = peer c 6 := by revert c; decide +kernel
theorem dev18_eq (c : Dev nD) : (⟨k0_dev18 c, k0_dev18_lt c⟩ : Dev nD) = peer c 4 := by revert c; decide +kernel
theorem dev19_eq (c : Dev nD) : (⟨k0_dev19 c, k0_dev19_lt c⟩ : Dev nD) = peer c 2 := by revert c; decide +kernel
theorem dev20_eq (c : Dev nD) : (⟨k0_dev20 c, k0_dev20_lt c⟩ : Dev nD) = peer c 5 := by revert c; decide +kernel
theorem dev21_eq (c : Dev nD) : (⟨k0_dev21 c, k0_dev21_lt c⟩ : Dev nD) = peer c 1 := by revert c; decide +kernel

/-! ## The parts -/

/-- The first four signals of the barrier. -/
theorem part1_spec (c : Dev nD) {Q : (Σ' (d0 : Dev nD) (v4 : BitVec 32) (v6 : BitVec 32) (v8 : BitVec 32) (v10 : BitVec 32) (v12 : BitVec 32) (v14 : BitVec 32) (v16 : BitVec 32), Sems sig S_) → sProp 𝕄} :
    iprop(recs m K ∗ owesX c (owedB c [0, 1, 2, 3, 4, 5, 6]) ∗ SigRes c 0 ∗ SigRes c 1 ∗ SigRes c 2 ∗ SigRes c 3)
      ⊢ iprop((∀ v4 v6 v8 v10 v12 v14 v16, owesX c (owedB c [4, 5, 6]) -∗ Q ⟨c, v4, v6, v8, v10, v12, v14, v16, SemArray.scalar (sig.barrier 0 rfl)⟩)
        -∗ wpc c (k0_part1 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Q) := by
  rw [k0_part1_eq_skeleton]; unfold k0_part1_skel
  simp only [semSignalWord, semWaitWord, Prog.lift, Prog.bind_op, Prog.bind_ret, Prog.pure_eq_ret, wp_deviceId]
  iintro ⟨#HR, HO, S0, S1, S2, S3⟩ Hk
  iapply (step_signal m K c _ 0 (dev1_eq c) (owedB c [1, 2, 3, 4, 5, 6]) _ rfl) $$ [HO S0]
  · isplitr; · iexact HR
    isplitl [HO]; · iexact HO
    iexact S0
  iintro HO
  iapply (step_signal m K c _ 1 (dev2_eq c) (owedB c [2, 3, 4, 5, 6]) _ rfl) $$ [HO S1]
  · isplitr; · iexact HR
    isplitl [HO]; · iexact HO
    iexact S1
  iintro HO
  iapply (step_signal m K c _ 2 (dev3_eq c) (owedB c [3, 4, 5, 6]) _ rfl) $$ [HO S2]
  · isplitr; · iexact HR
    isplitl [HO]; · iexact HO
    iexact S2
  iintro HO
  iapply (step_signal m K c _ 3 (dev4_eq c) (owedB c [4, 5, 6]) _ rfl) $$ [HO S3]
  · isplitr; · iexact HR
    isplitl [HO]; · iexact HO
    iexact S3
  iintro HO
  iapply (step_ret c)
  iapply Hk
  iexact HO

/-- The rest of the barrier's signals, the device's own keys and values stored in slot and slab 0, the barrier's wait. -/
theorem part2_spec (c : Dev nD) (v10 v12 v14 v16 : BitVec 32) {Q : FVec F S256x64 .bf16 → sProp 𝕄} :
    iprop(recs m K ∗ owesX c (owedB c [4, 5, 6])
      ∗ SigRes c 4
      ∗ SigRes c 5
      ∗ SigRes c 6
      ∗ ((((c : Thread nD τ).loc cc0_stg1_0) ↦{fullShare} kStg m c) : sProp 𝕄)
      ∗ (∃ f, kPts c 0 fullShare f)
      ∗ ((((c : Thread nD τ).loc cc0_stg2_0) ↦{fullShare} vStg m c) : sProp 𝕄)
      ∗ (∃ f, vPts c 0 fullShare f)
      ∗ ((((c : Thread nD τ).loc cc0_stg0_0) ↦{fullShare} qStg m c) : sProp 𝕄)
      ∗ levAts L lv
      ∗ cred (tallyAt (bar c) () 7)
      ∗ atPos ER (bar c) 0 ∅ 0)
    ⊢ iprop(((owesX c (owedK c [3, 0, 6, 4, 2, 5, 1])
      ∗ atPos ER (bar c) 1 ∅ 0
      ∗ bigSep Finset.univ (barPay c)
      ∗ ((((c : Thread nD τ).loc cc0_stg0_0) ↦{fullShare} qStg m c) : sProp 𝕄)
      ∗ ((((c : Thread nD τ).loc cc0_stg1_0) ↦{fullShare} kStg m c) : sProp 𝕄)
      ∗ ((((c : Thread nD τ).loc cc0_stg2_0) ↦{fullShare} vStg m c) : sProp 𝕄)
      ∗ kPts c 0 fullShare (kAll m c)
      ∗ vPts c 0 fullShare (vAll m c))
        -∗ Q (k0_pay3 (qStg m c)))
      -∗ wpc c (k0_part2 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 c v10 v12 v14 v16 (SemArray.scalar (sig.barrier 0 rfl))) Q) := by
  rw [k0_part2_eq_skeleton]; unfold k0_part2_skel
  simp only [semSignalWord, semWaitWord, Prog.lift, Prog.bind_op, Prog.bind_ret, Prog.pure_eq_ret, wp_deviceId]
  iintro ⟨#HR, HO, S4, S5, S6, Hk1, ⟨%f0, K0⟩, Hv1, ⟨%f1, V0⟩, Hq1, HL, HC, HA⟩ Hk
  iapply (step_signal m K c _ 4 (dev5_eq c) (owedB c [5, 6]) _ rfl) $$ [HO S4]
  · isplitr; · iexact HR
    isplitl [HO]; · iexact HO
    iexact S4
  iintro HO
  iapply (step_signal m K c _ 5 (dev6_eq c) (owedB c [6]) _ rfl) $$ [HO S5]
  · isplitr; · iexact HR
    isplitl [HO]; · iexact HO
    iexact S5
  iintro HO
  iapply (step_signal m K c _ 6 (dev7_eq c) (owedK c [3, 0, 6, 4, 2, 5, 1]) _ rfl) $$ [HO S6]
  · isplitr; · iexact HR
    isplitl [HO]; · iexact HO
    iexact S6
  iintro HO
  iapply (step_kin c fullShare (kStg m c)) $$ Hk1
  iintro Hk1
  iapply (step_kload c 0 fullShare f0) $$ K0
  iintro K0
  iapply (step_kstore m c f0 _ rfl) $$ K0
  iintro K0
  iapply (step_vin c fullShare (vStg m c)) $$ Hv1
  iintro Hv1
  iapply (step_vload c 0 fullShare f1) $$ V0
  iintro V0
  iapply (step_vstore m c f1 _ rfl) $$ V0
  iintro V0
  iapply (step_qin c fullShare (qStg m c)) $$ Hq1
  iintro Hq1
  iapply (step_barwait m K c _ rfl) $$ [HO HL HC HA]
  · isplitr; · iexact HR
    isplitl [HL]; · iexact HL
    isplitl [HO]; · iexact HO
    isplitl [HC]; · iexact HC
    iexact HA
  iintro ⟨HO, HA, HP⟩
  iapply (step_ret c)
  iapply Hk
  isplitl [HO]
  · iexact HO
  isplitl [HA]
  · iexact HA
  isplitl [HP]
  · iexact HP
  isplitl [Hq1]
  · iexact Hq1
  isplitl [Hk1]
  · iexact Hk1
  isplitl [Hv1]
  · iexact Hv1
  isplitl [K0]
  · iexact K0
  iexact V0

/-- Key copies to the peers 3, 0 and 6. -/
theorem part3_spec (c : Dev nD) (v4 v12 v16 : BitVec 32) {Q : BitVec 32 → sProp 𝕄} :
    iprop(recs m K ∗ owesX c (owedK c [3, 0, 6, 4, 2, 5, 1])
      ∗ KSend m c 3
      ∗ KSend m c 0
      ∗ KSend m c 6)
    ⊢ iprop((∀ w, (owesX c (owedK c [4, 2, 5, 1])
      ∗ cred (tallyAt (xc 0 c 3) () NK)
      ∗ cred (tallyAt (xc 0 c 0) () NK)
      ∗ cred (tallyAt (xc 0 c 6) () NK))
        -∗ Q w)
      -∗ wpc c (k0_part3 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 c v4 v12 v16) Q) := by
  rw [k0_part3_eq_skeleton]; unfold k0_part3_skel
  simp only [semSignalWord, semWaitWord, Prog.lift, Prog.bind_op, Prog.bind_ret, Prog.pure_eq_ret, wp_deviceId]
  iintro ⟨#HR, HO, K3, K0, K6⟩ Hk
  iapply (step_ksend m K c _ 3 (dev8_eq c) _ _ (show _ = xsem 0 3 from rfl) (show _ = xsem 1 (3 : Fin 7).rev from rfl) (owedK c [0, 6, 4, 2, 5, 1])) $$ [HO K3]
  · isplitr; · iexact HR
    isplitl [HO]; · iexact HO
    iexact K3
  iintro ⟨Ck3, HO⟩
  iapply (step_ksend m K c _ 0 (dev9_eq c) _ _ (show _ = xsem 0 0 from rfl) (show _ = xsem 1 (0 : Fin 7).rev from rfl) (owedK c [6, 4, 2, 5, 1])) $$ [HO K0]
  · isplitr; · iexact HR
    isplitl [HO]; · iexact HO
    iexact K0
  iintro ⟨Ck0, HO⟩
  iapply (step_ksend m K c _ 6 (dev10_eq c) _ _ (show _ = xsem 0 6 from rfl) (show _ = xsem 1 (6 : Fin 7).rev from rfl) (owedK c [4, 2, 5, 1])) $$ [HO K6]
  · isplitr; · iexact HR
    isplitl [HO]; · iexact HO
    iexact K6
  iintro ⟨Ck6, HO⟩
  iapply (step_ret c)
  iapply Hk
  isplitl [HO]
  · iexact HO
  isplitl [Ck3]
  · iexact Ck3
  isplitl [Ck0]
  · iexact Ck0
  iexact Ck6

/-- Key copies to the peers 4, 2 and 5. -/
theorem part4_spec (c : Dev nD) (v8 v14 v79 : BitVec 32) {Q : PUnit → sProp 𝕄} :
    iprop(recs m K ∗ owesX c (owedK c [4, 2, 5, 1])
      ∗ KSend m c 4
      ∗ KSend m c 2
      ∗ KSend m c 5)
    ⊢ iprop(((owesX c (owedK c [1])
      ∗ cred (tallyAt (xc 0 c 4) () NK)
      ∗ cred (tallyAt (xc 0 c 2) () NK)
      ∗ cred (tallyAt (xc 0 c 5) () NK))
        -∗ Q ⟨⟩)
      -∗ wpc c (k0_part4 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 c v8 v14 v79) Q) := by
  rw [k0_part4_eq_skeleton]; unfold k0_part4_skel
  simp only [semSignalWord, semWaitWord, Prog.lift, Prog.bind_op, Prog.bind_ret, Prog.pure_eq_ret, wp_deviceId]
  iintro ⟨#HR, HO, K4, K2, K5⟩ Hk
  iapply (step_ksend m K c _ 4 (dev11_eq c) _ _ (show _ = xsem 0 4 from rfl) (show _ = xsem 1 (4 : Fin 7).rev from rfl) (owedK c [2, 5, 1])) $$ [HO K4]
  · isplitr; · iexact HR
    isplitl [HO]; · iexact HO
    iexact K4
  iintro ⟨Ck4, HO⟩
  iapply (step_ksend m K c _ 2 (dev12_eq c) _ _ (show _ = xsem 0 2 from rfl) (show _ = xsem 1 (2 : Fin 7).rev from rfl) (owedK c [5, 1])) $$ [HO K2]
  · isplitr; · iexact HR
    isplitl [HO]; · iexact HO
    iexact K2
  iintro ⟨Ck2, HO⟩
  iapply (step_ksend m K c _ 5 (dev13_eq c) _ _ (show _ = xsem 0 5 from rfl) (show _ = xsem 1 (5 : Fin 7).rev from rfl) (owedK c [1])) $$ [HO K5]
  · isplitr; · iexact HR
    isplitl [HO]; · iexact HO
    iexact K5
  iintro ⟨Ck5, HO⟩
  iapply (step_ret c)
  iapply Hk
  isplitl [HO]
  · iexact HO
  isplitl [Ck4]
  · iexact Ck4
  isplitl [Ck2]
  · iexact Ck2
  iexact Ck5

/-- The last key copy, and value copies to the peers 3 and 0. -/
theorem part5_spec (c : Dev nD) (v4 v6 v10 v16 : BitVec 32) {Q : PUnit → sProp 𝕄} :
    iprop(recs m K ∗ owesX c (owedK c [1])
      ∗ KSend m c 1
      ∗ VSend m c 3
      ∗ VSend m c 0)
    ⊢ iprop(((owesX c (owedV c [6, 4, 2, 5, 1])
      ∗ cred (tallyAt (xc 0 c 1) () NK)
      ∗ cred (tallyAt (xc 2 c 3) () NV)
      ∗ cred (tallyAt (xc 2 c 0) () NV))
        -∗ Q ⟨⟩)
      -∗ wpc c (k0_part5 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 c v4 v6 v10 v16) Q) := by
  rw [k0_part5_eq_skeleton]; unfold k0_part5_skel
  simp only [semSignalWord, semWaitWord, Prog.lift, Prog.bind_op, Prog.bind_ret, Prog.pure_eq_ret, wp_deviceId]
  iintro ⟨#HR, HO, K1, V3, V0⟩ Hk
  iapply (step_ksend m K c _ 1 (dev14_eq c) _ _ (show _ = xsem 0 1 from rfl) (show _ = xsem 1 (1 : Fin 7).rev from rfl) (owedV c [3, 0, 6, 4, 2, 5, 1])) $$ [HO K1]
  · isplitr; · iexact HR
    isplitl [HO]; · iexact HO
    iexact K1
  iintro ⟨Ck1, HO⟩
  iapply (step_vsend m K c _ 3 (dev15_eq c) _ _ (show _ = xsem 2 3 from rfl) (show _ = xsem 3 (3 : Fin 7).rev from rfl) (owedV c [0, 6, 4, 2, 5, 1])) $$ [HO V3]
  · isplitr; · iexact HR
    isplitl [HO]; · iexact HO
    iexact V3
  iintro ⟨Cv3, HO⟩
  iapply (step_vsend m K c _ 0 (dev16_eq c) _ _ (show _ = xsem 2 0 from rfl) (show _ = xsem 3 (0 : Fin 7).rev from rfl) (owedV c [6, 4, 2, 5, 1])) $$ [HO V0]
  · isplitr; · iexact HR
    isplitl [HO]; · iexact HO
    iexact V0
  iintro ⟨Cv0, HO⟩
  iapply (step_ret c)
  iapply Hk
  isplitl [HO]
  · iexact HO
  isplitl [Ck1]
  · iexact Ck1
  isplitl [Cv3]
  · iexact Cv3
  iexact Cv0

/-- Value copies to the peers 6, 4, 2 and 5. -/
theorem part6_spec (c : Dev nD) (v8 v12 v14 : BitVec 32) {Q : PUnit → sProp 𝕄} :
    iprop(recs m K ∗ owesX c (owedV c [6, 4, 2, 5, 1])
      ∗ VSend m c 6
      ∗ VSend m c 4
      ∗ VSend m c 2
      ∗ VSend m c 5)
    ⊢ iprop(((owesX c (owedV c [1])
      ∗ cred (tallyAt (xc 2 c 6) () NV)
      ∗ cred (tallyAt (xc 2 c 4) () NV)
      ∗ cred (tallyAt (xc 2 c 2) () NV)
      ∗ cred (tallyAt (xc 2 c 5) () NV))
        -∗ Q ⟨⟩)
      -∗ wpc c (k0_part6 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 c v8 v12 v14) Q) := by
  rw [k0_part6_eq_skeleton]; unfold k0_part6_skel
  simp only [semSignalWord, semWaitWord, Prog.lift, Prog.bind_op, Prog.bind_ret, Prog.pure_eq_ret, wp_deviceId]
  iintro ⟨#HR, HO, V6, V4, V2, V5⟩ Hk
  iapply (step_vsend m K c _ 6 (dev17_eq c) _ _ (show _ = xsem 2 6 from rfl) (show _ = xsem 3 (6 : Fin 7).rev from rfl) (owedV c [4, 2, 5, 1])) $$ [HO V6]
  · isplitr; · iexact HR
    isplitl [HO]; · iexact HO
    iexact V6
  iintro ⟨Cv6, HO⟩
  iapply (step_vsend m K c _ 4 (dev18_eq c) _ _ (show _ = xsem 2 4 from rfl) (show _ = xsem 3 (4 : Fin 7).rev from rfl) (owedV c [2, 5, 1])) $$ [HO V4]
  · isplitr; · iexact HR
    isplitl [HO]; · iexact HO
    iexact V4
  iintro ⟨Cv4, HO⟩
  iapply (step_vsend m K c _ 2 (dev19_eq c) _ _ (show _ = xsem 2 2 from rfl) (show _ = xsem 3 (2 : Fin 7).rev from rfl) (owedV c [5, 1])) $$ [HO V2]
  · isplitr; · iexact HR
    isplitl [HO]; · iexact HO
    iexact V2
  iintro ⟨Cv2, HO⟩
  iapply (step_vsend m K c _ 5 (dev20_eq c) _ _ (show _ = xsem 2 5 from rfl) (show _ = xsem 3 (5 : Fin 7).rev from rfl) (owedV c [1])) $$ [HO V5]
  · isplitr; · iexact HR
    isplitl [HO]; · iexact HO
    iexact V5
  iintro ⟨Cv5, HO⟩
  iapply (step_ret c)
  iapply Hk
  isplitl [HO]
  · iexact HO
  isplitl [Cv6]
  · iexact Cv6
  isplitl [Cv4]
  · iexact Cv4
  isplitl [Cv2]
  · iexact Cv2
  iexact Cv5

/-- The last value copy, the device's own column piece, and the keys from the peer 3. -/
theorem part7_spec (c : Dev nD) (v6 v10 : BitVec 32) {Q : FVec F S256x256 .bf16 → sProp 𝕄} :
    iprop(recs m K ∗ owesX c (owedV c [1])
      ∗ VSend m c 1
      ∗ kPts c 0 (shareDrop fullShare 7) (kAll m c)
      ∗ (∃ f, pPts c 0 fullShare f)
      ∗ WaitRes c 1 3)
    ⊢ iprop(((owesX c []
      ∗ cred (tallyAt (xc 2 c 1) () NV)
      ∗ kPts c 0 (shareDrop fullShare 7) (kAll m c)
      ∗ pPts c 0 fullShare (pAll m c)
      ∗ Done m c 1 3)
        -∗ Q (k0_pay5 (qB m c) (kB m (nb c 4))))
      -∗ wpc c (k0_part7 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 c v6 v10 (qB m c)) Q) := by
  rw [k0_part7_eq_skeleton]; unfold k0_part7_skel Done
  simp only [semSignalWord, semWaitWord, Prog.lift, Prog.bind_op, Prog.bind_ret, Prog.pure_eq_ret, wp_deviceId]
  iintro ⟨#HR, HO, V1, K0, ⟨%p0, P0⟩, W13⟩ Hk
  iapply (step_vsend m K c _ 1 (dev21_eq c) _ _ (show _ = xsem 2 1 from rfl) (show _ = xsem 3 (1 : Fin 7).rev from rfl) (owedV c [])) $$ [HO V1]
  · isplitr; · iexact HR
    isplitl [HO]; · iexact HO
    iexact V1
  iintro ⟨Cv1, HO⟩
  iapply (step_kload_all m c 0 (shareDrop fullShare 7)) $$ K0
  iintro K0
  iapply (step_pload c 0 p0) $$ P0
  iintro P0
  iapply (step_pstore m c 0 p0 _ rfl) $$ P0
  iintro P0
  iapply (step_wait m K c 1 3 _ (show _ = xsem 1 3 from rfl) (by exact (kSlot_credit 4).trans nOf_1.symm)) $$ [HO W13]
  · isplitr; · iexact HR
    isplitl [HO]; · iexact HO
    iexact W13
  iintro ⟨HO, A13, X13⟩
  iapply (step_kload_x m c 3 4 rfl) $$ X13
  iintro X13
  iapply (step_ret c)
  iapply Hk
  isplitl [HO]
  · iexact HO
  isplitl [Cv1]
  · iexact Cv1
  isplitl [K0]
  · iexact K0
  isplitl [P0]
  · iexact P0
  isplitl [A13]; · iexact A13
  iexact X13

end Cert.Attn

end
-- ==== Proof.Whole.lean ====
/-
Whole buffers and their slots, slabs and column pieces; the lent shares of a device's own slot and slab.
-/
module

public import proofs.«01_k».proof.Proof.Steps

@[expose] public section

noncomputable section

namespace Cert.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable (K : Dev nD × Option (Fin 4 × Fin 7) → ℕ)

/-! ## Every element lies in one piece -/

theorem k_cover : (Finset.univ : Finset (Fin 8)).biUnion (fun o => (kRect o).set) = Finset.univ := by
  ext i
  simp only [Finset.mem_biUnion, Finset.mem_univ, true_and, iff_true]
  refine ⟨i 0, ?_⟩
  rw [Rect.mem_set_unit]
  intro a
  match a with
    | ⟨0, _⟩ => exact have h : (i 0).val < 8 := (i 0).isLt; ⟨by show (i 0).val ≤ (i 0).val; omega, by show (i 0).val < (i 0).val + 1; omega⟩
    | ⟨1, _⟩ => exact have h : (i 1).val < 256 := (i 1).isLt; ⟨by show 0 ≤ (i 1).val; omega, by show (i 1).val < 0 + 256; omega⟩
    | ⟨2, _⟩ => exact have h : (i 2).val < 64 := (i 2).isLt; ⟨by show 0 ≤ (i 2).val; omega, by show (i 2).val < 0 + 64; omega⟩

theorem k_disj : ∀ o ∈ (Finset.univ : Finset (Fin 8)), ∀ o' ∈ (Finset.univ : Finset (Fin 8)), o ≠ o' →
    Disjoint (kRect o).set (kRect o').set := by
  intro o _ o' _ h
  have h' : o.val ≠ o'.val := fun e => h (Fin.ext e)
  refine Rect.unit_disjoint 0 ?_
  show o.val + 1 ≤ o'.val ∨ o'.val + 1 ≤ o.val
  omega

theorem k_whole (c : Dev nD) (q : PosShare TreeShare) (f : Buf (Elt F) ((c : Thread nD τ).loc cc0_scratch0)) :
    ((((c : Thread nD τ).loc cc0_scratch0) ↦{q} f) : sProp 𝕄) = bigSep Finset.univ fun o : Fin 8 => kPts c o q f := by
  have h := pointsTo_biUnion (Ix := Unit) (Val := Elt F) (Name := ℕ) (U := UU) (Lvl := ℕ) (ℓ := ((c : Thread nD τ).loc cc0_scratch0)) (q := q) (f := f)
    (Finset.univ : Finset (Fin 8)) (fun o => (kRect o).set) k_disj
  rw [k_cover] at h
  exact h

theorem v_cover : (Finset.univ : Finset (Fin 8)).biUnion (fun o => (vRect o).set) = Finset.univ := by
  ext i
  simp only [Finset.mem_biUnion, Finset.mem_univ, true_and, iff_true]
  refine ⟨⟨(i 0).val / 256, by have h : (i 0).val < 2048 := (i 0).isLt; omega⟩, ?_⟩
  rw [Rect.mem_set_unit]
  intro a
  match a with
    | ⟨0, _⟩ => exact have h : (i 0).val < 2048 := (i 0).isLt; ⟨by show 256 * ((i 0).val / 256) ≤ (i 0).val; omega, by show (i 0).val < 256 * ((i 0).val / 256) + 256; omega⟩
    | ⟨1, _⟩ => exact have h : (i 1).val < 64 := (i 1).isLt; ⟨by show 0 ≤ (i 1).val; omega, by show (i 1).val < 0 + 64; omega⟩

theorem v_disj : ∀ o ∈ (Finset.univ : Finset (Fin 8)), ∀ o' ∈ (Finset.univ : Finset (Fin 8)), o ≠ o' →
    Disjoint (vRect o).set (vRect o').set := by
  intro o _ o' _ h
  have h' : o.val ≠ o'.val := fun e => h (Fin.ext e)
  refine Rect.unit_disjoint 0 ?_
  show 256 * o.val + 256 ≤ 256 * o'.val ∨ 256 * o'.val + 256 ≤ 256 * o.val
  omega

theorem v_whole (c : Dev nD) (q : PosShare TreeShare) (f : Buf (Elt F) ((c : Thread nD τ).loc cc0_scratch1)) :
    ((((c : Thread nD τ).loc cc0_scratch1) ↦{q} f) : sProp 𝕄) = bigSep Finset.univ fun o : Fin 8 => vPts c o q f := by
  have h := pointsTo_biUnion (Ix := Unit) (Val := Elt F) (Name := ℕ) (U := UU) (Lvl := ℕ) (ℓ := ((c : Thread nD τ).loc cc0_scratch1)) (q := q) (f := f)
    (Finset.univ : Finset (Fin 8)) (fun o => (vRect o).set) v_disj
  rw [v_cover] at h
  exact h

theorem p_cover : (Finset.univ : Finset (Fin 8)).biUnion (fun o => (pRect o).set) = Finset.univ := by
  ext i
  simp only [Finset.mem_biUnion, Finset.mem_univ, true_and, iff_true]
  refine ⟨⟨(i 1).val / 256, by have h : (i 1).val < 2048 := (i 1).isLt; omega⟩, ?_⟩
  rw [Rect.mem_set_unit]
  intro a
  match a with
    | ⟨0, _⟩ => exact have h : (i 0).val < 256 := (i 0).isLt; ⟨by show 0 ≤ (i 0).val; omega, by show (i 0).val < 0 + 256; omega⟩
    | ⟨1, _⟩ => exact have h : (i 1).val < 2048 := (i 1).isLt; ⟨by show 256 * ((i 1).val / 256) ≤ (i 1).val; omega, by show (i 1).val < 256 * ((i 1).val / 256) + 256; omega⟩

theorem p_disj : ∀ o ∈ (Finset.univ : Finset (Fin 8)), ∀ o' ∈ (Finset.univ : Finset (Fin 8)), o ≠ o' →
    Disjoint (pRect o).set (pRect o').set := by
  intro o _ o' _ h
  have h' : o.val ≠ o'.val := fun e => h (Fin.ext e)
  refine Rect.unit_disjoint 1 ?_
  show 256 * o.val + 256 ≤ 256 * o'.val ∨ 256 * o'.val + 256 ≤ 256 * o.val
  omega

theorem p_whole (c : Dev nD) (q : PosShare TreeShare) (f : Buf (Elt F) ((c : Thread nD τ).loc cc0_scratch2)) :
    ((((c : Thread nD τ).loc cc0_scratch2) ↦{q} f) : sProp 𝕄) = bigSep Finset.univ fun o : Fin 8 => pPts c o q f := by
  have h := pointsTo_biUnion (Ix := Unit) (Val := Elt F) (Name := ℕ) (U := UU) (Lvl := ℕ) (ℓ := ((c : Thread nD τ).loc cc0_scratch2)) (q := q) (f := f)
    (Finset.univ : Finset (Fin 8)) (fun o => (pRect o).set) p_disj
  rw [p_cover] at h
  exact h

/-- Eight conjuncts as the first and the other seven. -/
theorem eight (Φ : Fin 8 → sProp 𝕄) : bigSep Finset.univ Φ = iprop(Φ 0 ∗ bigSep Finset.univ fun j : Fin 7 => Φ j.succ) := by
  rw [bigSep_univ_at Φ 0, show (Finset.univ : Finset (Fin 8)).erase 0 = Finset.univ.map (Fin.succEmb 7) by decide, bigSep_map]
  rfl

/-- Seven conjuncts written out. -/
theorem seven (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]
  rfl

/-! ## Shares lent and returned -/

theorem k_lend (c : Dev nD) (o : Fin 8) (f : Buf (Elt F) ((c : Thread nD τ).loc cc0_scratch0)) :
    kPts c o fullShare f ⊣⊢ iprop(kPts c o (shareDrop fullShare 7) f ∗ bigSep Finset.univ fun j : Fin 7 => kPts c o (shareTok fullShare 7 j) f) := by
  unfold kPts
  exact Transfers.pointsTo_toks fullShare 7
theorem v_lend (c : Dev nD) (o : Fin 8) (f : Buf (Elt F) ((c : Thread nD τ).loc cc0_scratch1)) :
    vPts c o fullShare f ⊣⊢ iprop(vPts c o (shareDrop fullShare 7) f ∗ bigSep Finset.univ fun j : Fin 7 => vPts c o (shareTok fullShare 7 j) f) := by
  unfold vPts
  exact Transfers.pointsTo_toks fullShare 7

/-- The share of the value buffer that is left on device `c` while its own slab is lent: the kept share of the
    whole, and the rest of the received slabs. -/
theorem v_gather (c : Dev nD) :
    iprop(vPts c 0 (shareDrop fullShare 7) (vAll m c) ∗ bigSep Finset.univ fun j : Fin 7 => xPay m c 3 j)
      ⊣⊢ iprop((((c : Thread nD τ).loc cc0_scratch1) ↦{shareDrop fullShare 7} vAll m c)
        ∗ bigSep Finset.univ fun j : Fin 7 => bigSep Finset.univ fun i : Fin 7 => vPts c j.succ (shareTok fullShare 7 i) (vAll m c)) := by
  have e : (bigSep Finset.univ fun j : Fin 7 => xPay m c 3 j)
      = iprop((bigSep Finset.univ fun j : Fin 7 => vPts c j.succ (shareDrop fullShare 7) (vAll m c))
        ∗ bigSep Finset.univ fun j : Fin 7 => bigSep Finset.univ fun i : Fin 7 => vPts c j.succ (shareTok fullShare 7 i) (vAll m c)) := by
    rw [← bigSep_sep']
    exact bigSep_congr fun j _ => Entails.antisymm (v_lend c j.succ (vAll m c)).1 (v_lend c j.succ (vAll m c)).2
  rw [e, v_whole, eight]
  exact ⟨Laws.sep_assoc.2, Laws.sep_assoc.1⟩

/-- The load of all values, made with the kept share. -/
theorem step_vall_parts (c : Dev nD)
    {hl : (Memref.whole cc0_scratch1 : Memref sig .tc .vmem S2048x64 .bf16).view.LoadsAt (Rect.unit (s := S2048x64) ![0, 0] S2048x64.size inb_S2048x64_S2048x64_0_0).toLoadRect}
    {α : Type} {Q : α → sProp 𝕄} {k : (S2048x64.Idx → Elt F .bf16) → Prog (TpuEff nD τ sig (Elt F) Λ₀ .tc) α} :
    iprop(vPts c 0 (shareDrop fullShare 7) (vAll m c) ∗ bigSep Finset.univ fun j : Fin 7 => xPay m c 3 j)
      ⊢ iprop(((vPts c 0 (shareDrop fullShare 7) (vAll m c) ∗ bigSep Finset.univ fun j : Fin 7 => xPay m c 3 j) -∗ wpc c (k (vAll m c)) Q)
      -∗ wpc c (.op (.load (Memref.whole cc0_scratch1 : Memref sig .tc .vmem S2048x64 .bf16) (Rect.unit (s := S2048x64) ![0, 0] S2048x64.size inb_S2048x64_S2048x64_0_0).toLoadRect hl) k) Q) := by
  iintro H Hk
  ihave H := (v_gather m c).1 $$ H
  icases H with ⟨Hv, Hr⟩
  iapply (step_vall c (shareDrop fullShare 7) (vAll m c)) $$ Hv
  iintro Hv
  iapply Hk
  iapply (v_gather m c).2
  isplitl [Hv]; · iexact Hv
  iexact Hr

/-! ## The own blocks lent out, and got back -/

theorem k_out (c : Dev nD) : kPts c 0 fullShare (kAll m c)
    ⊣⊢ iprop(kPts c 0 (shareDrop fullShare 7) (kAll m c) ∗ bigSep Finset.univ fun j : Fin 7 => xPay m c 0 j) := k_lend c 0 (kAll m c)
theorem v_out (c : Dev nD) : vPts c 0 fullShare (vAll m c)
    ⊣⊢ iprop(vPts c 0 (shareDrop fullShare 7) (vAll m c) ∗ bigSep Finset.univ fun j : Fin 7 => xPay m c 2 j) := v_lend c 0 (vAll m c)

/-- The key buffer whole again. -/
theorem k_back (c : Dev nD) :
    iprop(kPts c 0 (shareDrop fullShare 7) (kAll m c) ∗ (bigSep Finset.univ fun j : Fin 7 => xPay m c 0 j) ∗ bigSep Finset.univ fun j : Fin 7 => xPay m c 1 j)
      ⊢ ((((c : Thread nD τ).loc cc0_scratch0) ↦{fullShare} kAll m c) : sProp 𝕄) := by
  rw [k_whole, eight]
  iintro ⟨H0, H1, H2⟩
  isplitl [H0 H1]
  · iapply (k_out m c).2
    isplitl [H0]; · iexact H0
    iexact H1
  iexact H2
/-- The value buffer whole again. -/
theorem v_back (c : Dev nD) :
    iprop(vPts c 0 (shareDrop fullShare 7) (vAll m c) ∗ (bigSep Finset.univ fun j : Fin 7 => xPay m c 2 j) ∗ bigSep Finset.univ fun j : Fin 7 => xPay m c 3 j)
      ⊢ ((((c : Thread nD τ).loc cc0_scratch1) ↦{fullShare} vAll m c) : sProp 𝕄) := by
  rw [v_whole, eight]
  iintro ⟨H0, H1, H2⟩
  isplitl [H0 H1]
  · iapply (v_out m c).2
    isplitl [H0]; · iexact H0
    iexact H1
  iexact H2

theorem k_any (c : Dev nD) (f : Buf (Elt F) ((c : Thread nD τ).loc cc0_scratch0)) :
    (bigSep Finset.univ fun j : Fin 7 => (kPts c j.succ fullShare f : sProp 𝕄)) ⊢ bigSep Finset.univ fun j : Fin 7 => iprop(∃ f, kPts (F := F) c j.succ fullShare f) :=
  bigSep_mono fun j _ => exists_intro (Φ := fun f => kPts (F := F) c j.succ fullShare f) f
theorem v_any (c : Dev nD) (f : Buf (Elt F) ((c : Thread nD τ).loc cc0_scratch1)) :
    (bigSep Finset.univ fun j : Fin 7 => (vPts c j.succ fullShare f : sProp 𝕄)) ⊢ bigSep Finset.univ fun j : Fin 7 => iprop(∃ f, vPts (F := F) c j.succ fullShare f) :=
  bigSep_mono fun j _ => exists_intro (Φ := fun f => vPts (F := F) c j.succ fullShare f) f
theorem p_any (c : Dev nD) (f : Buf (Elt F) ((c : Thread nD τ).loc cc0_scratch2)) :
    (bigSep Finset.univ fun o : Fin 8 => (pPts c o fullShare f : sProp 𝕄)) ⊢ bigSep Finset.univ fun o : Fin 8 => iprop(∃ f, pPts (F := F) c o fullShare f) :=
  bigSep_mono fun o _ => exists_intro (Φ := fun f => pPts (F := F) c o fullShare f) f

/-- A buffer of any contents as pieces of any contents. -/
theorem k_cut (c : Dev nD) : (iprop(∃ f, ((c : Thread nD τ).loc cc0_scratch0) ↦{fullShare} f) : sProp 𝕄)
    ⊢ iprop((∃ f, kPts (F := F) c 0 fullShare f) ∗ bigSep Finset.univ fun j : Fin 7 => iprop(∃ f, kPts (F := F) c j.succ fullShare f)) := by
  iintro ⟨%f, H⟩
  ihave H := (Entails.of_eq ((k_whole c fullShare f).trans (eight _))) $$ H
  icases H with ⟨H0, H⟩
  isplitl [H0]; · iexists f; iexact H0
  iapply k_any; iexact H
theorem v_cut (c : Dev nD) : (iprop(∃ f, ((c : Thread nD τ).loc cc0_scratch1) ↦{fullShare} f) : sProp 𝕄)
    ⊢ iprop((∃ f, vPts (F := F) c 0 fullShare f) ∗ bigSep Finset.univ fun j : Fin 7 => iprop(∃ f, vPts (F := F) c j.succ fullShare f)) := by
  iintro ⟨%f, H⟩
  ihave H := (Entails.of_eq ((v_whole c fullShare f).trans (eight _))) $$ H
  icases H with ⟨H0, H⟩
  isplitl [H0]; · iexists f; iexact H0
  iapply v_any; iexact H
theorem p_cut (c : Dev nD) : (iprop(∃ f, ((c : Thread nD τ).loc cc0_scratch2) ↦{fullShare} f) : sProp 𝕄)
    ⊢ bigSep Finset.univ fun o : Fin 8 => iprop(∃ f, pPts (F := F) c o fullShare f) := by
  iintro ⟨%f, H⟩
  ihave H := (Entails.of_eq (p_whole c fullShare f)) $$ H
  iapply p_any; iexact H

end Cert.Attn

end
-- ==== Proof.PartsB.lean ====
/-
The second half of the kernel body, part by part: the column pieces, the product, the waits for the copies out.
-/
module

public import proofs.«01_k».proof.Proof.Whole

@[expose] public section

noncomputable section

namespace Cert.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable (K : Dev nD × Option (Fin 4 × Fin 7) → ℕ)

/-- The column pieces at the distances 4 and 7. -/
theorem part8_spec (c : Dev nD) (v4 v16 : BitVec 32) {Q : PUnit → sProp 𝕄} :
    iprop(recs m K ∗ owesX c []
      ∗ (∃ f, pPts c 4 fullShare f)
      ∗ WaitRes c 1 6
      ∗ (∃ f, pPts c 7 fullShare f)
      ∗ WaitRes c 1 0)
    ⊢ iprop(((owesX c []
      ∗ pPts c 4 fullShare (pAll m c)
      ∗ Done m c 1 6
      ∗ pPts c 7 fullShare (pAll m c)
      ∗ Done m c 1 0)
        -∗ Q ⟨⟩)
      -∗ wpc c (k0_part8 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 v4 v16 (qB m c) (k0_pay5 (qB m c) (kB m (nb c 4)))) Q) := by
  rw [k0_part8_eq_skeleton]; unfold k0_part8_skel Done
  simp only [semSignalWord, semWaitWord, Prog.lift, Prog.bind_op, Prog.bind_ret, Prog.pure_eq_ret, wp_deviceId]
  iintro ⟨#HR, HO, ⟨%p4, P4⟩, W16, ⟨%p7, P7⟩, W10⟩ Hk
  iapply (step_pload c 4 p4) $$ P4
  iintro P4
  iapply (step_pstore m c 4 p4 _ rfl) $$ P4
  iintro P4
  iapply (step_wait m K c 1 6 _ (show _ = xsem 1 6 from rfl) (by exact (kSlot_credit 7).trans nOf_1.symm)) $$ [HO W16]
  · isplitr; · iexact HR
    isplitl [HO]; · iexact HO
    iexact W16
  iintro ⟨HO, A16, X16⟩
  iapply (step_kload_x m c 6 7 rfl) $$ X16
  iintro X16
  iapply (step_pload c 7 p7) $$ P7
  iintro P7
  iapply (step_pstore m c 7 p7 _ rfl) $$ P7
  iintro P7
  iapply (step_wait m K c 1 0 _ (show _ = xsem 1 0 from rfl) (by exact (kSlot_credit 1).trans nOf_1.symm)) $$ [HO W10]
  · isplitr; · iexact HR
    isplitl [HO]; · iexact HO
    iexact W10
  iintro ⟨HO, A10, X10⟩
  iapply (step_ret c)
  iapply Hk
  isplitl [HO]
  · iexact HO
  isplitl [P4]
  · iexact P4
  isplitl [A16 X16]
  · isplitl [A16]; · iexact A16
    iexact X16
  isplitl [P7]
  · iexact P7
  isplitl [A10]; · iexact A10
  iexact X10

/-- The column pieces at the distances 1 and 3. -/
theorem part9_spec (c : Dev nD) (v8 v12 : BitVec 32) {Q : PUnit → sProp 𝕄} :
    iprop(recs m K ∗ owesX c []
      ∗ Done m c 1 0
      ∗ (∃ f, pPts c 1 fullShare f)
      ∗ WaitRes c 1 2
      ∗ (∃ f, pPts c 3 fullShare f))
    ⊢ iprop(((owesX c []
      ∗ Done m c 1 0
      ∗ pPts c 1 fullShare (pAll m c)
      ∗ Done m c 1 2
      ∗ pPts c 3 fullShare (pAll m c))
        -∗ Q ⟨⟩)
      -∗ wpc c (k0_part9 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 v8 v12 (qB m c)) Q) := by
  rw [k0_part9_eq_skeleton]; unfold k0_part9_skel Done
  simp only [semSignalWord, semWaitWord, Prog.lift, Prog.bind_op, Prog.bind_ret, Prog.pure_eq_ret, wp_deviceId]
  iintro ⟨#HR, HO, ⟨A10, X10⟩, ⟨%p1, P1⟩, W12, ⟨%p3, P3⟩⟩ Hk
  iapply (step_kload_x m c 0 1 rfl) $$ X10
  iintro X10
  iapply (step_pload c 1 p1) $$ P1
  iintro P1
  iapply (step_pstore m c 1 p1 _ rfl) $$ P1
  iintro P1
  iapply (step_wait m K c 1 2 _ (show _ = xsem 1 2 from rfl) (by exact (kSlot_credit 3).trans nOf_1.symm)) $$ [HO W12]
  · isplitr; · iexact HR
    isplitl [HO]; · iexact HO
    iexact W12
  iintro ⟨HO, A12, X12⟩
  iapply (step_kload_x m c 2 3 rfl) $$ X12
  iintro X12
  iapply (step_pload c 3 p3) $$ P3
  iintro P3
  iapply (step_pstore m c 3 p3 _ rfl) $$ P3
  iintro P3
  iapply (step_ret c)
  iapply Hk
  isplitl [HO]
  · iexact HO
  isplitl [A10 X10]
  · isplitl [A10]; · iexact A10
    iexact X10
  isplitl [P1]
  · iexact P1
  isplitl [A12 X12]
  · isplitl [A12]; · iexact A12
    iexact X12
  iexact P3

/-- The column pieces at the distances 5 and 2. -/
theorem part10_spec (c : Dev nD) (v14 : BitVec 32) {Q : PUnit → sProp 𝕄} :
    iprop(recs m K ∗ owesX c []
      ∗ WaitRes c 1 4
      ∗ (∃ f, pPts c 5 fullShare f)
      ∗ WaitRes c 1 1
      ∗ (∃ f, pPts c 2 fullShare f))
    ⊢ iprop(((owesX c []
      ∗ Done m c 1 4
      ∗ pPts c 5 fullShare (pAll m c)
      ∗ Done m c 1 1
      ∗ pPts c 2 fullShare (pAll m c))
        -∗ Q ⟨⟩)
      -∗ wpc c (k0_part10 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 v14 (qB m c)) Q) := by
  rw [k0_part10_eq_skeleton]; unfold k0_part10_skel Done
  simp only [semSignalWord, semWaitWord, Prog.lift, Prog.bind_op, Prog.bind_ret, Prog.pure_eq_ret, wp_deviceId]
  iintro ⟨#HR, HO, W14, ⟨%p5, P5⟩, W11, ⟨%p2, P2⟩⟩ Hk
  iapply (step_wait m K c 1 4 _ (show _ = xsem 1 4 from rfl) (by exact (kSlot_credit 5).trans nOf_1.symm)) $$ [HO W14]
  · isplitr; · iexact HR
    isplitl [HO]; · iexact HO
    iexact W14
  iintro ⟨HO, A14, X14⟩
  iapply (step_kload_x m c 4 5 rfl) $$ X14
  iintro X14
  iapply (step_pload c 5 p5) $$ P5
  iintro P5
  iapply (step_pstore m c 5 p5 _ rfl) $$ P5
  iintro P5
  iapply (step_wait m K c 1 1 _ (show _ = xsem 1 1 from rfl) (by exact (kSlot_credit 2).trans nOf_1.symm)) $$ [HO W11]
  · isplitr; · iexact HR
    isplitl [HO]; · iexact HO
    iexact W11
  iintro ⟨HO, A11, X11⟩
  iapply (step_kload_x m c 1 2 rfl) $$ X11
  iintro X11
  iapply (step_pload c 2 p2) $$ P2
  iintro P2
  iapply (step_pstore m c 2 p2 _ rfl) $$ P2
  iintro P2
  iapply (step_ret c)
  iapply Hk
  isplitl [HO]
  · iexact HO
  isplitl [A14 X14]
  · isplitl [A14]; · iexact A14
    iexact X14
  isplitl [P5]
  · iexact P5
  isplitl [A11 X11]
  · isplitl [A11]; · iexact A11
    iexact X11
  iexact P2

/-- The last column piece, and the values from the peers 6 and 5. -/
theorem part11_spec (c : Dev nD) (v4 v6 : BitVec 32) {Q : PUnit → sProp 𝕄} :
    iprop(recs m K ∗ owesX c []
      ∗ WaitRes c 1 5
      ∗ (∃ f, pPts c 6 fullShare f)
      ∗ WaitRes c 3 6
      ∗ WaitRes c 3 5)
    ⊢ iprop(((owesX c []
      ∗ Done m c 1 5
      ∗ pPts c 6 fullShare (pAll m c)
      ∗ Done m c 3 6
      ∗ Done m c 3 5)
        -∗ Q ⟨⟩)
      -∗ wpc c (k0_part11 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 v4 v6 (qB m c)) Q) := by
  rw [k0_part11_eq_skeleton]; unfold k0_part11_skel Done
  simp only [semSignalWord, semWaitWord, Prog.lift, Prog.bind_op, Prog.bind_ret, Prog.pure_eq_ret, wp_deviceId]
  iintro ⟨#HR, HO, W15, ⟨%p6, P6⟩, W36, W35⟩ Hk
  iapply (step_wait m K c 1 5 _ (show _ = xsem 1 5 from rfl) (by exact (kSlot_credit 6).trans nOf_1.symm)) $$ [HO W15]
  · isplitr; · iexact HR
    isplitl [HO]; · iexact HO
    iexact W15
  iintro ⟨HO, A15, X15⟩
  iapply (step_kload_x m c 5 6 rfl) $$ X15
  iintro X15
  iapply (step_pload c 6 p6) $$ P6
  iintro P6
  iapply (step_pstore m c 6 p6 _ rfl) $$ P6
  iintro P6
  iapply (step_wait m K c 3 6 _ (show _ = xsem 3 6 from rfl) (by exact (vSlab_credit 7).trans nOf_3.symm)) $$ [HO W36]
  · isplitr; · iexact HR
    isplitl [HO]; · iexact HO
    iexact W36
  iintro ⟨HO, A36, X36⟩
  iapply (step_wait m K c 3 5 _ (show _ = xsem 3 5 from rfl) (by exact (vSlab_credit 6).trans nOf_3.symm)) $$ [HO W35]
  · isplitr; · iexact HR
    isplitl [HO]; · iexact HO
    iexact W35
  iintro ⟨HO, A35, X35⟩
  iapply (step_ret c)
  iapply Hk
  isplitl [HO]
  · iexact HO
  isplitl [A15 X15]
  · isplitl [A15]; · iexact A15
    iexact X15
  isplitl [P6]
  · iexact P6
  isplitl [A36 X36]
  · isplitl [A36]; · iexact A36
    iexact X36
  isplitl [A35]; · iexact A35
  iexact X35

/-- The values from the peers 4, 3, 2 and 1. -/
theorem part12_spec (c : Dev nD) (v8 v10 v12 v14 : BitVec 32) {Q : PUnit → sProp 𝕄} :
    iprop(recs m K ∗ owesX c []
      ∗ WaitRes c 3 4
      ∗ WaitRes c 3 3
      ∗ WaitRes c 3 2
      ∗ WaitRes c 3 1)
    ⊢ iprop(((owesX c []
      ∗ Done m c 3 4
      ∗ Done m c 3 3
      ∗ Done m c 3 2
      ∗ Done m c 3 1)
        -∗ Q ⟨⟩)
      -∗ wpc c (k0_part12 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 v8 v10 v12 v14) Q) := by
  rw [k0_part12_eq_skeleton]; unfold k0_part12_skel Done
  simp only [semSignalWord, semWaitWord, Prog.lift, Prog.bind_op, Prog.bind_ret, Prog.pure_eq_ret, wp_deviceId]
  iintro ⟨#HR, HO, W34, W33, W32, W31⟩ Hk
  iapply (step_wait m K c 3 4 _ (show _ = xsem 3 4 from rfl) (by exact (vSlab_credit 5).trans nOf_3.symm)) $$ [HO W34]
  · isplitr; · iexact HR
    isplitl [HO]; · iexact HO
    iexact W34
  iintro ⟨HO, A34, X34⟩
  iapply (step_wait m K c 3 3 _ (show _ = xsem 3 3 from rfl) (by exact (vSlab_credit 4).trans nOf_3.symm)) $$ [HO W33]
  · isplitr; · iexact HR
    isplitl [HO]; · iexact HO
    iexact W33
  iintro ⟨HO, A33, X33⟩
  iapply (step_wait m K c 3 2 _ (show _ = xsem 3 2 from rfl) (by exact (vSlab_credit 3).trans nOf_3.symm)) $$ [HO W32]
  · isplitr; · iexact HR
    isplitl [HO]; · iexact HO
    iexact W32
  iintro ⟨HO, A32, X32⟩
  iapply (step_wait m K c 3 1 _ (show _ = xsem 3 1 from rfl) (by exact (vSlab_credit 2).trans nOf_3.symm)) $$ [HO W31]
  · isplitr; · iexact HR
    isplitl [HO]; · iexact HO
    iexact W31
  iintro ⟨HO, A31, X31⟩
  iapply (step_ret c)
  iapply Hk
  isplitl [HO]
  · iexact HO
  isplitl [A34 X34]
  · isplitl [A34]; · iexact A34
    iexact X34
  isplitl [A33 X33]
  · isplitl [A33]; · iexact A33
    iexact X33
  isplitl [A32 X32]
  · isplitl [A32]; · iexact A32
    iexact X32
  isplitl [A31]; · iexact A31
  iexact X31

/-- The last values, the product with the values, its quotient by the row sums, and the first key copy out. -/
theorem part13_spec (c : Dev nD) (v16 : BitVec 32) {Q : PUnit → sProp 𝕄} :
    iprop(recs m K ∗ owesX c []
      ∗ WaitRes c 3 0
      ∗ vPts c 0 (shareDrop fullShare 7) (vAll m c)
      ∗ xPay m c 3 1
      ∗ xPay m c 3 2
      ∗ xPay m c 3 3
      ∗ xPay m c 3 4
      ∗ xPay m c 3 5
      ∗ xPay m c 3 6
      ∗ pPts c 0 fullShare (pAll m c)
      ∗ pPts c 1 fullShare (pAll m c)
      ∗ pPts c 2 fullShare (pAll m c)
      ∗ pPts c 3 fullShare (pAll m c)
      ∗ pPts c 4 fullShare (pAll m c)
      ∗ pPts c 5 fullShare (pAll m c)
      ∗ pPts c 6 fullShare (pAll m c)
      ∗ pPts c 7 fullShare (pAll m c)
      ∗ (∃ X, ((c : Thread nD τ).loc cc0_stg3_0) ↦{fullShare} X)
      ∗ WaitRes c 0 0)
    ⊢ iprop(((owesX c []
      ∗ atPos ER (xc 3 c 0) 1 ∅ 0
      ∗ (vPts c 0 (shareDrop fullShare 7) (vAll m c) ∗ bigSep Finset.univ fun j : Fin 7 => xPay m c 3 j)
      ∗ ((((c : Thread nD τ).loc cc0_scratch2) ↦{fullShare} pAll m c) : sProp 𝕄)
      ∗ ((((c : Thread nD τ).loc cc0_stg3_0) ↦{fullShare} outAt m c) : sProp 𝕄)
      ∗ Done m c 0 0)
        -∗ Q ⟨⟩)
      -∗ wpc c (k0_part13 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 v16) Q) := by
  rw [k0_part13_eq_skeleton]; unfold k0_part13_skel Done
  simp only [semSignalWord, semWaitWord, Prog.lift, Prog.bind_op, Prog.bind_ret, Prog.pure_eq_ret, wp_deviceId]
  iintro ⟨#HR, HO, W30, V0, X31, X32, X33, X34, X35, X36, P0, P1, P2, P3, P4, P5, P6, P7, ⟨%x, Ho⟩, W00⟩ Hk
  iapply (step_wait m K c 3 0 _ (show _ = xsem 3 0 from rfl) (by exact (vSlab_credit 1).trans nOf_3.symm)) $$ [HO W30]
  · isplitr; · iexact HR
    isplitl [HO]; · iexact HO
    iexact W30
  iintro ⟨HO, A30, X30⟩
  iapply (step_vall_parts m c) $$ [V0 X30 X31 X32 X33 X34 X35 X36]
  · isplitl [V0]; · iexact V0
    rw [seven]
    isplitl [X30]; · iexact X30
    isplitl [X31]; · iexact X31
    isplitl [X32]; · iexact X32
    isplitl [X33]; · iexact X33
    isplitl [X34]; · iexact X34
    isplitl [X35]; · iexact X35
    iexact X36
  iintro HV
  iapply (step_pall c fullShare (pAll m c)) $$ [P0 P1 P2 P3 P4 P5 P6 P7]
  · rw [p_whole, eight, seven]
    isplitl [P0]; · iexact P0
    isplitl [P1]; · iexact P1
    isplitl [P2]; · iexact P2
    isplitl [P3]; · iexact P3
    isplitl [P4]; · iexact P4
    isplitl [P5]; · iexact P5
    isplitl [P6]; · iexact P6
    iexact P7
  iintro HP
  iapply (step_oload c fullShare x) $$ Ho
  iintro Ho
  iapply (step_ostore c x (outAt m c)) $$ Ho
  iintro Ho
  iapply (step_wait m K c 0 0 _ (show _ = xsem 0 0 from rfl) (by exact (kSlot_credit 0).trans nOf_0.symm)) $$ [HO W00]
  · isplitr; · iexact HR
    isplitl [HO]; · iexact HO
    iexact W00
  iintro ⟨HO, A00, X00⟩
  iapply (step_ret c)
  iapply Hk
  isplitl [HO]
  · iexact HO
  isplitl [A30]
  · iexact A30
  isplitl [HV]
  · iexact HV
  isplitl [HP]
  · iexact HP
  isplitl [Ho]
  · iexact Ho
  isplitl [A00]; · iexact A00
  iexact X00

/-- The key copies out to the peers 1 to 4. -/
theorem part14_spec (c : Dev nD) {Q : PUnit → sProp 𝕄} :
    iprop(recs m K ∗ owesX c []
      ∗ WaitRes c 0 1
      ∗ WaitRes c 0 2
      ∗ WaitRes c 0 3
      ∗ WaitRes c 0 4)
    ⊢ iprop(((owesX c []
      ∗ Done m c 0 1
      ∗ Done m c 0 2
      ∗ Done m c 0 3
      ∗ Done m c 0 4)
        -∗ Q ⟨⟩)
      -∗ wpc c (k0_part14 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Q) := by
  rw [k0_part14_eq_skeleton]; unfold k0_part14_skel Done
  simp only [semSignalWord, semWaitWord, Prog.lift, Prog.bind_op, Prog.bind_ret, Prog.pure_eq_ret, wp_deviceId]
  iintro ⟨#HR, HO, W01, W02, W03, W04⟩ Hk
  iapply (step_wait m K c 0 1 _ (show _ = xsem 0 1 from rfl) (by exact (kSlot_credit 0).trans nOf_0.symm)) $$ [HO W01]
  · isplitr; · iexact HR
    isplitl [HO]; · iexact HO
    iexact W01
  iintro ⟨HO, A01, X01⟩
  iapply (step_wait m K c 0 2 _ (show _ = xsem 0 2 from rfl) (by exact (kSlot_credit 0).trans nOf_0.symm)) $$ [HO W02]
  · isplitr; · iexact HR
    isplitl [HO]; · iexact HO
    iexact W02
  iintro ⟨HO, A02, X02⟩
  iapply (step_wait m K c 0 3 _ (show _ = xsem 0 3 from rfl) (by exact (kSlot_credit 0).trans nOf_0.symm)) $$ [HO W03]
  · isplitr; · iexact HR
    isplitl [HO]; · iexact HO
    iexact W03
  iintro ⟨HO, A03, X03⟩
  iapply (step_wait m K c 0 4 _ (show _ = xsem 0 4 from rfl) (by exact (kSlot_credit 0).trans nOf_0.symm)) $$ [HO W04]
  · isplitr; · iexact HR
    isplitl [HO]; · iexact HO
    iexact W04
  iintro ⟨HO, A04, X04⟩
  iapply (step_ret c)
  iapply Hk
  isplitl [HO]
  · iexact HO
  isplitl [A01 X01]
  · isplitl [A01]; · iexact A01
    iexact X01
  isplitl [A02 X02]
  · isplitl [A02]; · iexact A02
    iexact X02
  isplitl [A03 X03]
  · isplitl [A03]; · iexact A03
    iexact X03
  isplitl [A04]; · iexact A04
  iexact X04

/-- The last key copies out, and the first value copies out. -/
theorem part15_spec (c : Dev nD) {Q : PUnit → sProp 𝕄} :
    iprop(recs m K ∗ owesX c []
      ∗ WaitRes c 0 5
      ∗ WaitRes c 0 6
      ∗ WaitRes c 2 0
      ∗ WaitRes c 2 1)
    ⊢ iprop(((owesX c []
      ∗ Done m c 0 5
      ∗ Done m c 0 6
      ∗ Done m c 2 0
      ∗ Done m c 2 1)
        -∗ Q ⟨⟩)
      -∗ wpc c (k0_part15 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Q) := by
  rw [k0_part15_eq_skeleton]; unfold k0_part15_skel Done
  simp only [semSignalWord, semWaitWord, Prog.lift, Prog.bind_op, Prog.bind_ret, Prog.pure_eq_ret, wp_deviceId]
  iintro ⟨#HR, HO, W05, W06, W20, W21⟩ Hk
  iapply (step_wait m K c 0 5 _ (show _ = xsem 0 5 from rfl) (by exact (kSlot_credit 0).trans nOf_0.symm)) $$ [HO W05]
  · isplitr; · iexact HR
    isplitl [HO]; · iexact HO
    iexact W05
  iintro ⟨HO, A05, X05⟩
  iapply (step_wait m K c 0 6 _ (show _ = xsem 0 6 from rfl) (by exact (kSlot_credit 0).trans nOf_0.symm)) $$ [HO W06]
  · isplitr; · iexact HR
    isplitl [HO]; · iexact HO
    iexact W06
  iintro ⟨HO, A06, X06⟩
  iapply (step_wait m K c 2 0 _ (show _ = xsem 2 0 from rfl) (by exact (vSlab_credit 0).trans nOf_2.symm)) $$ [HO W20]
  · isplitr; · iexact HR
    isplitl [HO]; · iexact HO
    iexact W20
  iintro ⟨HO, A20, X20⟩
  iapply (step_wait m K c 2 1 _ (show _ = xsem 2 1 from rfl) (by exact (vSlab_credit 0).trans nOf_2.symm)) $$ [HO W21]
  · isplitr; · iexact HR
    isplitl [HO]; · iexact HO
    iexact W21
  iintro ⟨HO, A21, X21⟩
  iapply (step_ret c)
  iapply Hk
  isplitl [HO]
  · iexact HO
  isplitl [A05 X05]
  · isplitl [A05]; · iexact A05
    iexact X05
  isplitl [A06 X06]
  · isplitl [A06]; · iexact A06
    iexact X06
  isplitl [A20 X20]
  · isplitl [A20]; · iexact A20
    iexact X20
  isplitl [A21]; · iexact A21
  iexact X21

end Cert.Attn

end
-- ==== Proof.Body.lean ====
/-
The whole kernel body on one device: what it is given, what it leaves.
-/
module

public import proofs.«01_k».proof.Proof.PartsA
public import proofs.«01_k».proof.Proof.PartsB

@[expose] public section

noncomputable section

namespace Cert.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable (K : Dev nD × Option (Fin 4 × Fin 7) → ℕ)

/-! ## What a device's body starts from and ends with -/

/-- The duties it will discharge: the peers' barrier cells, its key copies, its value copies. -/
def sigTok (c : Dev nD) (j : Fin 7) : sProp 𝕄 := dutyTok ER (bar (peer c j)) 0 j.rev
def kTok (c : Dev nD) (j : Fin 7) : sProp 𝕄 := iprop(dutyTok ER (xc 0 c j) 0 0 ∗ dutyTok ER (xc 1 (peer c j) j.rev) 0 0)
def vTok (c : Dev nD) (j : Fin 7) : sProp 𝕄 := iprop(dutyTok ER (xc 2 c j) 0 0 ∗ dutyTok ER (xc 3 (peer c j) j.rev) 0 0)

/-- Its own transfer cells of one kind, all at one round. -/
def cellsAt (c : Dev nD) (κ : Fin 4) (r : ℕ) : sProp 𝕄 := bigSep Finset.univ fun j : Fin 7 => atPos ER (xc κ c j) r ∅ 0

/-- The units that reach it. -/
def credsOf (c : Dev nD) (κ : Fin 4) : sProp 𝕄 := bigSep Finset.univ fun j : Fin 7 => cred (tallyAt (xc κ c j) () (nOf κ))

/-- Before the body. -/
def bodyIn (c : Dev nD) : sProp 𝕄 :=
  iprop(owesX c (owedB c [0, 1, 2, 3, 4, 5, 6]) ∗ levAts L lv
    ∗ (bigSep Finset.univ (sigTok (F := F) c)) ∗ (bigSep Finset.univ (kTok (F := F) c)) ∗ (bigSep Finset.univ (vTok (F := F) c))
    ∗ cred (tallyAt (bar c) () 7) ∗ credsOf c 1 ∗ credsOf c 3
    ∗ atPos ER (bar c) 0 ∅ 0 ∗ cellsAt c 0 0 ∗ cellsAt c 1 0 ∗ cellsAt c 2 0 ∗ cellsAt c 3 0
    ∗ (∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f)
    ∗ (((c : Thread nD τ).loc cc0_stg0_0) ↦{fullShare} qStg m c) ∗ (((c : Thread nD τ).loc cc0_stg1_0) ↦{fullShare} kStg m c)
    ∗ (((c : Thread nD τ).loc cc0_stg2_0) ↦{fullShare} vStg m c) ∗ (∃ X, ((c : Thread nD τ).loc cc0_stg3_0) ↦{fullShare} X))

/-- After it. -/
def bodyOut (c : Dev nD) : sProp 𝕄 :=
  iprop(owesX c []
    ∗ atPos ER (bar c) 1 ∅ 0 ∗ cellsAt c 0 1 ∗ cellsAt c 1 1 ∗ cellsAt c 2 1 ∗ cellsAt c 3 1
    ∗ (((c : Thread nD τ).loc cc0_scratch0) ↦{fullShare} kAll m c) ∗ (((c : Thread nD τ).loc cc0_scratch1) ↦{fullShare} vAll m c)
    ∗ (((c : Thread nD τ).loc cc0_scratch2) ↦{fullShare} pAll m c)
    ∗ (((c : Thread nD τ).loc cc0_stg0_0) ↦{fullShare} qStg m c) ∗ (((c : Thread nD τ).loc cc0_stg1_0) ↦{fullShare} kStg m c)
    ∗ (((c : Thread nD τ).loc cc0_stg2_0) ↦{fullShare} vStg m c) ∗ (((c : Thread nD τ).loc cc0_stg3_0) ↦{fullShare} outAt m c))

/-! ## Regroupings -/

/-- Its foreign slots and slabs go with the barrier's signals. -/
theorem sig_ready (c : Dev nD) :
    iprop((∃ f, ((c : Thread nD τ).loc cc0_scratch0) ↦{fullShare} f) ∗ (∃ f, ((c : Thread nD τ).loc cc0_scratch1) ↦{fullShare} f)
      ∗ bigSep Finset.univ (sigTok (F := F) c))
      ⊢ iprop((∃ f, kPts (F := F) c 0 fullShare f) ∗ (∃ f, vPts (F := F) c 0 fullShare f) ∗ bigSep Finset.univ (SigRes (F := F) c)) := by
  rw [show (bigSep Finset.univ (SigRes (F := F) c))
      = iprop((bigSep Finset.univ (sigTok (F := F) c)) ∗ (bigSep Finset.univ fun j : Fin 7 => iprop(∃ f, kPts (F := F) c j.succ fullShare f))
        ∗ (bigSep Finset.univ fun j : Fin 7 => iprop(∃ f, vPts (F := F) c j.succ fullShare f))) from by
    rw [← bigSep_sep', ← bigSep_sep']; rfl]
  iintro ⟨Hk, Hv, Ht⟩
  ihave Hk := (k_cut c) $$ Hk
  icases Hk with ⟨K0, Hk⟩
  ihave Hv := (v_cut c) $$ Hv
  icases Hv with ⟨V0, Hv⟩
  isplitl [K0]; · iexact K0
  isplitl [V0]; · iexact V0
  isplitl [Ht]; · iexact Ht
  isplitl [Hk]; · iexact Hk
  iexact Hv

/-- With the peers' slots and slabs and the own blocks in place, the copies can start. -/
theorem send_ready (c : Dev nD) :
    iprop((bigSep Finset.univ (barPay (F := F) c)) ∗ kPts c 0 fullShare (kAll m c) ∗ vPts c 0 fullShare (vAll m c)
      ∗ (bigSep Finset.univ (kTok (F := F) c)) ∗ (bigSep Finset.univ (vTok (F := F) c)))
      ⊢ iprop(kPts c 0 (shareDrop fullShare 7) (kAll m c) ∗ vPts c 0 (shareDrop fullShare 7) (vAll m c)
        ∗ bigSep Finset.univ (KSend m c) ∗ bigSep Finset.univ (VSend m c)) := by
  rw [show (bigSep Finset.univ (KSend m c))
      = iprop((bigSep Finset.univ (kTok (F := F) c)) ∗ (bigSep Finset.univ fun j : Fin 7 => iprop(∃ f, kPts (F := F) (peer c j) j.rev.succ fullShare f))
        ∗ (bigSep Finset.univ fun j : Fin 7 => xPay m c 0 j)) from by rw [← bigSep_sep', ← bigSep_sep']; rfl,
    show (bigSep Finset.univ (VSend m c))
      = iprop((bigSep Finset.univ (vTok (F := F) c)) ∗ (bigSep Finset.univ fun j : Fin 7 => iprop(∃ f, vPts (F := F) (peer c j) j.rev.succ fullShare f))
        ∗ (bigSep Finset.univ fun j : Fin 7 => xPay m c 2 j)) from by rw [← bigSep_sep', ← bigSep_sep']; rfl,
    show (bigSep Finset.univ (barPay (F := F) c))
      = iprop((bigSep Finset.univ fun j : Fin 7 => iprop(∃ f, kPts (F := F) (peer c j) j.rev.succ fullShare f))
        ∗ (bigSep Finset.univ fun j : Fin 7 => iprop(∃ f, vPts (F := F) (peer c j) j.rev.succ fullShare f))) from by rw [← bigSep_sep']; rfl]
  iintro ⟨⟨Hk, Hv⟩, K0, V0, Tk, Tv⟩
  ihave K0 := (k_out m c).1 $$ K0
  icases K0 with ⟨K0, Xk⟩
  ihave V0 := (v_out m c).1 $$ V0
  icases V0 with ⟨V0, Xv⟩
  isplitl [K0]; · iexact K0
  isplitl [V0]; · iexact V0
  isplitl [Tk Hk Xk]
  · isplitl [Tk]; · iexact Tk
    isplitl [Hk]; · iexact Hk
    iexact Xk
  isplitl [Tv]; · iexact Tv
  isplitl [Hv]; · iexact Hv
  iexact Xv

theorem recv_ready (c : Dev nD) (κ : Fin 4) :
    iprop(cellsAt (F := F) c κ 0 ∗ credsOf (F := F) c κ) ⊢ bigSep Finset.univ (WaitRes (F := F) c κ) := by
  unfold cellsAt credsOf
  rw [← bigSep_sep']
  exact Entails.of_eq rfl

/-- What a copy out leaves to wait for. -/
theorem wait_ready (c : Dev nD) (κ : Fin 4) (j : Fin 7) (n : ℕ) (hn : n = nOf κ) :
    iprop(atPos ER (xc κ c j) 0 ∅ 0 ∗ cred (tallyAt (xc κ c j) () n)) ⊢ WaitRes (F := F) c κ j := by
  subst hn
  exact Entails.of_eq rfl

/-! ## The body -/

theorem body_spec (c : Dev nD) {Q : PUnit → sProp 𝕄} :
    iprop(recs m K ∗ bodyIn m c) ⊢ iprop((bodyOut m c -∗ |={Set.univ}=> Q ⟨⟩) -∗ wpc c (cc0_body (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Q) := by
  rw [cc0_body_eq_skeleton]; unfold cc0_body_skel
  rw [k0_part16_eq_skeleton]; unfold k0_part16_skel bodyIn bodyOut
  simp only [Prog.lift, wp_bind, Prog.bind_op, Prog.bind_ret, Prog.pure_eq_ret]
  iintro ⟨#HR, HO, HL, Ts, Tk, Tv, HC, C1, C3, HA, A0, A1, A2, A3, Hk, Hv, Hp, Hq1, Hk1, Hv1, Ho⟩ Hw
  ihave H := (sig_ready c) $$ [Hk Hv Ts]
  · isplitl [Hk]; · iexact Hk
    isplitl [Hv]; · iexact Hv
    iexact Ts
  icases H with ⟨K0, V0, Ts⟩
  ihave Ts := (Entails.of_eq (seven _)) $$ Ts
  icases Ts with ⟨S0, S1, S2, S3, S4, S5, S6⟩
  ihave Hp := (p_cut c) $$ Hp
  ihave Hp := (Entails.of_eq (eight _)) $$ Hp
  icases Hp with ⟨P0, Hp⟩
  ihave Hp := (Entails.of_eq (seven _)) $$ Hp
  icases Hp with ⟨P1, P2, P3, P4, P5, P6, P7⟩
  ihave W1 := (recv_ready c 1) $$ [A1 C1]
  · isplitl [A1]; · iexact A1
    iexact C1
  ihave W1 := (Entails.of_eq (seven _)) $$ W1
  icases W1 with ⟨W10, W11, W12, W13, W14, W15, W16⟩
  ihave W3 := (recv_ready c 3) $$ [A3 C3]
  · isplitl [A3]; · iexact A3
    iexact C3
  ihave W3 := (Entails.of_eq (seven _)) $$ W3
  icases W3 with ⟨W30, W31, W32, W33, W34, W35, W36⟩
  unfold cellsAt
  ihave A0 := (Entails.of_eq (seven _)) $$ A0
  icases A0 with ⟨A00, A01, A02, A03, A04, A05, A06⟩
  ihave A2 := (Entails.of_eq (seven _)) $$ A2
  icases A2 with ⟨A20, A21, A22, A23, A24, A25, A26⟩
  iapply (part1_spec m K c) $$ [HO S0 S1 S2 S3]
  · isplitr; · iexact HR
    isplitl [HO]; · iexact HO
    isplitl [S0]; · iexact S0
    isplitl [S1]; · iexact S1
    isplitl [S2]; · iexact S2
    iexact S3
  iintro %v4 %v6 %v8 %v10 %v12 %v14 %v16 HO
  dsimp only
  iapply (part2_spec m K c v10 v12 v14 v16) $$ [HO S4 S5 S6 Hk1 K0 Hv1 V0 Hq1 HL HC HA]
  · isplitr; · iexact HR
    isplitl [HO]; · iexact HO
    isplitl [S4]; · iexact S4
    isplitl [S5]; · iexact S5
    isplitl [S6]; · iexact S6
    isplitl [Hk1]; · iexact Hk1
    isplitl [K0]; · iexact K0
    isplitl [Hv1]; · iexact Hv1
    isplitl [V0]; · iexact V0
    isplitl [Hq1]; · iexact Hq1
    isplitl [HL]; · iexact HL
    isplitl [HC]; · iexact HC
    iexact HA
  iintro ⟨HO, HA, HP, Hq1, Hk1, Hv1, K0, V0⟩
  ihave H := (send_ready m c) $$ [HP K0 V0 Tk Tv]
  · isplitl [HP]; · iexact HP
    isplitl [K0]; · iexact K0
    isplitl [V0]; · iexact V0
    isplitl [Tk]; · iexact Tk
    iexact Tv
  icases H with ⟨K0, V0, Ks, Vs⟩
  ihave Ks := (Entails.of_eq (seven _)) $$ Ks
  icases Ks with ⟨KK0, KK1, KK2, KK3, KK4, KK5, KK6⟩
  ihave Vs := (Entails.of_eq (seven _)) $$ Vs
  icases Vs with ⟨VV0, VV1, VV2, VV3, VV4, VV5, VV6⟩
  iapply (part3_spec m K c v4 v12 v16) $$ [HO KK3 KK0 KK6]
  · isplitr; · iexact HR
    isplitl [HO]; · iexact HO
    isplitl [KK3]; · iexact KK3
    isplitl [KK0]; · iexact KK0
    iexact KK6
  iintro %v79 ⟨HO, C3, C0, C6⟩
  ihave W03 := (wait_ready c 0 3 NK nOf_0.symm) $$ [A03 C3]
  · isplitl [A03]; · iexact A03
    iexact C3
  ihave W00 := (wait_ready c 0 0 NK nOf_0.symm) $$ [A00 C0]
  · isplitl [A00]; · iexact A00
    iexact C0
  ihave W06 := (wait_ready c 0 6 NK nOf_0.symm) $$ [A06 C6]
  · isplitl [A06]; · iexact A06
    iexact C6
  iapply (part4_spec m K c v8 v14 v79) $$ [HO KK4 KK2 KK5]
  · isplitr; · iexact HR
    isplitl [HO]; · iexact HO
    isplitl [KK4]; · iexact KK4
    isplitl [KK2]; · iexact KK2
    iexact KK5
  iintro ⟨HO, C4, C2, C5⟩
  ihave W04 := (wait_ready c 0 4 NK nOf_0.symm) $$ [A04 C4]
  · isplitl [A04]; · iexact A04
    iexact C4
  ihave W02 := (wait_ready c 0 2 NK nOf_0.symm) $$ [A02 C2]
  · isplitl [A02]; · iexact A02
    iexact C2
  ihave W05 := (wait_ready c 0 5 NK nOf_0.symm) $$ [A05 C5]
  · isplitl [A05]; · iexact A05
    iexact C5
  iapply (part5_spec m K c v4 v6 v10 v16) $$ [HO KK1 VV3 VV0]
  · isplitr; · iexact HR
    isplitl [HO]; · iexact HO
    isplitl [KK1]; · iexact KK1
    isplitl [VV3]; · iexact VV3
    iexact VV0
  iintro ⟨HO, C1, D3, D0⟩
  ihave W01 := (wait_ready c 0 1 NK nOf_0.symm) $$ [A01 C1]
  · isplitl [A01]; · iexact A01
    iexact C1
  ihave W23 := (wait_ready c 2 3 NV nOf_2.symm) $$ [A23 D3]
  · isplitl [A23]; · iexact A23
    iexact D3
  ihave W20 := (wait_ready c 2 0 NV nOf_2.symm) $$ [A20 D0]
  · isplitl [A20]; · iexact A20
    iexact D0
  iapply (part6_spec m K c v8 v12 v14) $$ [HO VV6 VV4 VV2 VV5]
  · isplitr; · iexact HR
    isplitl [HO]; · iexact HO
    isplitl [VV6]; · iexact VV6
    isplitl [VV4]; · iexact VV4
    isplitl [VV2]; · iexact VV2
    iexact VV5
  iintro ⟨HO, D6, D4, D2, D5⟩
  ihave W26 := (wait_ready c 2 6 NV nOf_2.symm) $$ [A26 D6]
  · isplitl [A26]; · iexact A26
    iexact D6
  ihave W24 := (wait_ready c 2 4 NV nOf_2.symm) $$ [A24 D4]
  · isplitl [A24]; · iexact A24
    iexact D4
  ihave W22 := (wait_ready c 2 2 NV nOf_2.symm) $$ [A22 D2]
  · isplitl [A22]; · iexact A22
    iexact D2
  ihave W25 := (wait_ready c 2 5 NV nOf_2.symm) $$ [A25 D5]
  · isplitl [A25]; · iexact A25
    iexact D5
  iapply (part7_spec m K c v6 v10) $$ [HO VV1 K0 P0 W13]
  · isplitr; · iexact HR
    isplitl [HO]; · iexact HO
    isplitl [VV1]; · iexact VV1
    isplitl [K0]; · iexact K0
    isplitl [P0]; · iexact P0
    iexact W13
  iintro ⟨HO, D1, K0, P0, W13⟩
  ihave W21 := (wait_ready c 2 1 NV nOf_2.symm) $$ [A21 D1]
  · isplitl [A21]; · iexact A21
    iexact D1
  iapply (part8_spec m K c v4 v16) $$ [HO P4 W16 P7 W10]
  · isplitr; · iexact HR
    isplitl [HO]; · iexact HO
    isplitl [P4]; · iexact P4
    isplitl [W16]; · iexact W16
    isplitl [P7]; · iexact P7
    iexact W10
  iintro ⟨HO, P4, W16, P7, W10⟩
  iapply (part9_spec m K c v8 v12) $$ [HO W10 P1 W12 P3]
  · isplitr; · iexact HR
    isplitl [HO]; · iexact HO
    isplitl [W10]; · iexact W10
    isplitl [P1]; · iexact P1
    isplitl [W12]; · iexact W12
    iexact P3
  iintro ⟨HO, W10, P1, W12, P3⟩
  iapply (part10_spec m K c v14) $$ [HO W14 P5 W11 P2]
  · isplitr; · iexact HR
    isplitl [HO]; · iexact HO
    isplitl [W14]; · iexact W14
    isplitl [P5]; · iexact P5
    isplitl [W11]; · iexact W11
    iexact P2
  iintro ⟨HO, W14, P5, W11, P2⟩
  iapply (part11_spec m K c v4 v6) $$ [HO W15 P6 W36 W35]
  · isplitr; · iexact HR
    isplitl [HO]; · iexact HO
    isplitl [W15]; · iexact W15
    isplitl [P6]; · iexact P6
    isplitl [W36]; · iexact W36
    iexact W35
  iintro ⟨HO, W15, P6, W36, W35⟩
  iapply (part12_spec m K c v8 v10 v12 v14) $$ [HO W34 W33 W32 W31]
  · isplitr; · iexact HR
    isplitl [HO]; · iexact HO
    isplitl [W34]; · iexact W34
    isplitl [W33]; · iexact W33
    isplitl [W32]; · iexact W32
    iexact W31
  iintro ⟨HO, W34, W33, W32, W31⟩
  unfold Done
  icases W31 with ⟨A31, X31⟩
  icases W32 with ⟨A32, X32⟩
  icases W33 with ⟨A33, X33⟩
  icases W34 with ⟨A34, X34⟩
  icases W35 with ⟨A35, X35⟩
  icases W36 with ⟨A36, X36⟩
  iapply (part13_spec m K c v16) $$ [HO W30 V0 X31 X32 X33 X34 X35 X36 P0 P1 P2 P3 P4 P5 P6 P7 Ho W00]
  · isplitr; · iexact HR
    isplitl [HO]; · iexact HO
    isplitl [W30]; · iexact W30
    isplitl [V0]; · iexact V0
    isplitl [X31]; · iexact X31
    isplitl [X32]; · iexact X32
    isplitl [X33]; · iexact X33
    isplitl [X34]; · iexact X34
    isplitl [X35]; · iexact X35
    isplitl [X36]; · iexact X36
    isplitl [P0]; · iexact P0
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [Ho]; · iexact Ho
    iexact W00
  iintro ⟨HO, A30, ⟨V0, Xv⟩, Hp, Ho, W00⟩
  iapply (part14_spec m K c) $$ [HO W01 W02 W03 W04]
  · isplitr; · iexact HR
    isplitl [HO]; · iexact HO
    isplitl [W01]; · iexact W01
    isplitl [W02]; · iexact W02
    isplitl [W03]; · iexact W03
    iexact W04
  iintro ⟨HO, W01, W02, W03, W04⟩
  iapply (part15_spec m K c) $$ [HO W05 W06 W20 W21]
  · isplitr; · iexact HR
    isplitl [HO]; · iexact HO
    isplitl [W05]; · iexact W05
    isplitl [W06]; · iexact W06
    isplitl [W20]; · iexact W20
    iexact W21
  iintro ⟨HO, W05, W06, W20, W21⟩
  iapply (step_wait m K c 2 2 _ (show _ = xsem 2 2 from rfl) (by exact (vSlab_credit 0).trans nOf_2.symm)) $$ [HO W22]
  · isplitr; · iexact HR
    isplitl [HO]; · iexact HO
    iexact W22
  iintro ⟨HO, A22, X22⟩
  iapply (step_wait m K c 2 3 _ (show _ = xsem 2 3 from rfl) (by exact (vSlab_credit 0).trans nOf_2.symm)) $$ [HO W23]
  · isplitr; · iexact HR
    isplitl [HO]; · iexact HO
    iexact W23
  iintro ⟨HO, A23, X23⟩
  iapply (step_wait m K c 2 4 _ (show _ = xsem 2 4 from rfl) (by exact (vSlab_credit 0).trans nOf_2.symm)) $$ [HO W24]
  · isplitr; · iexact HR
    isplitl [HO]; · iexact HO
    iexact W24
  iintro ⟨HO, A24, X24⟩
  iapply (step_wait m K c 2 5 _ (show _ = xsem 2 5 from rfl) (by exact (vSlab_credit 0).trans nOf_2.symm)) $$ [HO W25]
  · isplitr; · iexact HR
    isplitl [HO]; · iexact HO
    iexact W25
  iintro ⟨HO, A25, X25⟩
  iapply (step_ret c)
  iapply (step_wait m K c 2 6 _ (show _ = xsem 2 6 from rfl) (by exact (vSlab_credit 0).trans nOf_2.symm)) $$ [HO W26]
  · isplitr; · iexact HR
    isplitl [HO]; · iexact HO
    iexact W26
  iintro ⟨HO, A26, X26⟩
  iapply (step_ret_fupd c)
  unfold Done
  icases W00 with ⟨A00, X00⟩
  icases W01 with ⟨A01, X01⟩
  icases W02 with ⟨A02, X02⟩
  icases W03 with ⟨A03, X03⟩
  icases W04 with ⟨A04, X04⟩
  icases W05 with ⟨A05, X05⟩
  icases W06 with ⟨A06, X06⟩
  icases W10 with ⟨A10, X10⟩
  icases W11 with ⟨A11, X11⟩
  icases W12 with ⟨A12, X12⟩
  icases W13 with ⟨A13, X13⟩
  icases W14 with ⟨A14, X14⟩
  icases W15 with ⟨A15, X15⟩
  icases W16 with ⟨A16, X16⟩
  icases W20 with ⟨A20, X20⟩
  icases W21 with ⟨A21, X21⟩
  iapply Hw
  isplitl [HO]; · iexact HO
  isplitl [HA]; · iexact HA
  isplitl [A00 A01 A02 A03 A04 A05 A06]
  · rw [seven]
    isplitl [A00]; · iexact A00
    isplitl [A01]; · iexact A01
    isplitl [A02]; · iexact A02
    isplitl [A03]; · iexact A03
    isplitl [A04]; · iexact A04
    isplitl [A05]; · iexact A05
    iexact A06
  isplitl [A10 A11 A12 A13 A14 A15 A16]
  · rw [seven]
    isplitl [A10]; · iexact A10
    isplitl [A11]; · iexact A11
    isplitl [A12]; · iexact A12
    isplitl [A13]; · iexact A13
    isplitl [A14]; · iexact A14
    isplitl [A15]; · iexact A15
    iexact A16
  isplitl [A20 A21 A22 A23 A24 A25 A26]
  · rw [seven]
    isplitl [A20]; · iexact A20
    isplitl [A21]; · iexact A21
    isplitl [A22]; · iexact A22
    isplitl [A23]; · iexact A23
    isplitl [A24]; · iexact A24
    isplitl [A25]; · iexact A25
    iexact A26
  isplitl [A30 A31 A32 A33 A34 A35 A36]
  · rw [seven]
    isplitl [A30]; · iexact A30
    isplitl [A31]; · iexact A31
    isplitl [A32]; · iexact A32
    isplitl [A33]; · iexact A33
    isplitl [A34]; · iexact A34
    isplitl [A35]; · iexact A35
    iexact A36
  isplitl [K0 X00 X01 X02 X03 X04 X05 X06 X10 X11 X12 X13 X14 X15 X16]
  · iapply (k_back m c)
    isplitl [K0]; · iexact K0
    isplitl [X00 X01 X02 X03 X04 X05 X06]
    · rw [seven]
      isplitl [X00]; · iexact X00
      isplitl [X01]; · iexact X01
      isplitl [X02]; · iexact X02
      isplitl [X03]; · iexact X03
      isplitl [X04]; · iexact X04
      isplitl [X05]; · iexact X05
      iexact X06
    rw [seven]
    isplitl [X10]; · iexact X10
    isplitl [X11]; · iexact X11
    isplitl [X12]; · iexact X12
    isplitl [X13]; · iexact X13
    isplitl [X14]; · iexact X14
    isplitl [X15]; · iexact X15
    iexact X16
  isplitl [V0 X20 X21 X22 X23 X24 X25 X26 Xv]
  · iapply (v_back m c)
    isplitl [V0]; · iexact V0
    isplitl [X20 X21 X22 X23 X24 X25 X26]
    · rw [seven]
      isplitl [X20]; · iexact X20
      isplitl [X21]; · iexact X21
      isplitl [X22]; · iexact X22
      isplitl [X23]; · iexact X23
      isplitl [X24]; · iexact X24
      isplitl [X25]; · iexact X25
      iexact X26
    iexact Xv
  isplitl [Hp]; · iexact Hp
  isplitl [Hq1]; · iexact Hq1
  isplitl [Hk1]; · iexact Hk1
  isplitl [Hv1]; · iexact Hv1
  iexact Ho

end Cert.Attn

end
-- ==== Proof.Launch.lean ====
/-
The launch on eight devices: the cells allocated, the duties dealt around, the body's obligation, and the run of @main.
-/
module

public import proofs.«01_k».proof.Proof.Body
public import proofs.«01_k».proof.Proof.Gen.KernelIdeal.Points
public import Idealize.ShloMosaic.Lib.Pipeline.CollectiveSegs

@[expose] public section

noncomputable section

namespace Cert.Attn

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)
variable (K : Dev nD × Option (Fin 4 × Fin 7) → ℕ)
variable (ρ : Dev nD → PrngReg)

/-! ## Conjunctions over the cells of a device -/

theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem optSplit {I : Type} [Fintype I] [DecidableEq I] (Φ : Option I → sProp 𝕄) :
    bigSep Finset.univ Φ = iprop(Φ none ∗ bigSep Finset.univ fun i => Φ (some i)) := by
  have e : (Finset.univ : Finset (Option I)).erase none = Finset.univ.map Function.Embedding.some := by
    ext x; cases x <;> simp
  rw [bigSep_univ_at Φ none, e, bigSep_map]
  rfl

/-- A device's barrier cell, then its transfer cells kind by kind. -/
theorem cellSplit (Φ : Option (Fin 4 × Fin 7) → sProp 𝕄) :
    bigSep Finset.univ Φ = iprop(Φ none ∗ (bigSep Finset.univ fun j => Φ (some (0, j))) ∗ (bigSep Finset.univ fun j => Φ (some (1, j)))
      ∗ (bigSep Finset.univ fun j => Φ (some (2, j))) ∗ (bigSep Finset.univ fun j => Φ (some (3, j)))) := by
  rw [optSplit, bigSep_univ_prod, four]

/-- With a persistent fact at hand, conjunct by conjunct. -/
theorem mono_pers {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (bigSep_of_persistent S R)).trans ((Entails.of_eq (bigSep_sep' S _ _).symm).trans (bigSep_mono h))

/-- Seen from the device that pays: the index of the payer's peer reversed. -/
theorem from_payer (Ψ : Dev nD → Fin 7 → sProp 𝕄) :
    (bigSep Finset.univ fun c : Dev nD => bigSep Finset.univ fun j : Fin 7 => Ψ c j)
      = bigSep Finset.univ fun c : Dev nD => bigSep Finset.univ fun j : Fin 7 => Ψ (peer c j) j.rev := by
  rw [bigSep_univ_comm, bigSep_univ_comm fun (c : Dev nD) (j : Fin 7) => Ψ (peer c j) j.rev,
    bigSep_univ_equiv Fin.revPerm fun j : Fin 7 => bigSep Finset.univ fun c : Dev nD => Ψ c j]
  exact bigSep_congr fun j _ => bigSep_univ_equiv (around j) fun c : Dev nD => Ψ c j.rev

/-! ## The proof data of the one call -/

theorem N_one : cfg0.N = 1 := by decide
def t₀ : Fin cfg0.N := ⟨0, by rw [N_one]; decide⟩
theorem only_t₀ (t : Fin cfg0.N) : t = t₀ := Fin.ext (by have h := t.isLt; have := N_one; simp only [t₀]; omega)

/-- The duties device `c` pays. -/
def payToks (c : Dev nD) : sProp 𝕄 :=
  iprop((bigSep Finset.univ (sigTok (F := F) c)) ∗ (bigSep Finset.univ (kTok (F := F) c)) ∗ (bigSep Finset.univ (vTok (F := F) c)))
/-- Its places at its own cells. -/
def places (c : Dev nD) : sProp 𝕄 :=
  iprop(atPos ER (bar c) 0 ∅ 0 ∗ cellsAt (F := F) c 0 0 ∗ cellsAt (F := F) c 1 0 ∗ cellsAt (F := F) c 2 0 ∗ cellsAt (F := F) c 3 0)
/-- What the protocol gives it. -/
def G' (c : Dev nD) : sProp 𝕄 := iprop(∃ K, recs m K ∗ places (F := F) c ∗ payToks (F := F) c)
def start (c : Dev nD) : sProp 𝕄 :=
  iprop(G' m c ∗ (cred (tallyAt (bar c) () 7) ∗ credsOf (F := F) c 1 ∗ credsOf (F := F) c 3) ∗ levAts L lv)
def scr (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))
/-- The transfer cells of one kind, closed at zero. -/
def zeros (c : Dev nD) (κ : Fin 4) : sProp 𝕄 := bigSep Finset.univ fun j : Fin 7 => semVal (xc κ c j) 0

def Φ₀ (c : Dev nD) : sProp 𝕄 := iprop(start m c ∗ scr (F := F) c)
def Φ₁ (c : Dev nD) : sProp 𝕄 :=
  iprop(scr (F := F) c ∗ semVal (bar c) 0 ∗ zeros (F := F) c 0 ∗ zeros (F := F) c 1 ∗ zeros (F := F) c 2 ∗ zeros (F := F) c 3)

def dats (_ : Fin 1) (c : Dev nD) : Dat τ (Elt F) Unit ℕ UU ℕ cfg0 c where
  A w := m ((cfg0.win w).arr.view.loc (c : Thread nD τ))
  after w _ := match w with
    | ⟨0, _⟩ => qStg m c
    | ⟨1, _⟩ => kStg m c
    | ⟨2, _⟩ => vStg m c
    | ⟨3, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 4) t₀ d)) ∗ (∃ d, stg c cc0_stg1_0 ((dats m 0 c).before (1 : Fin 4) t₀ d))
    ∗ (∃ d, stg c cc0_stg2_0 ((dats m 0 c).before (2 : Fin 4) t₀ d)) ∗ (∃ d, stg c cc0_stg3_0 ((dats m 0 c).before (3 : Fin 4) t₀ d)))
def bodyPost (c : Dev nD) : sProp 𝕄 :=
  iprop(Φ₁ (F := F) c ∗ (dats m 0 c).owesAt () t₀.succ
    ∗ stg c cc0_stg0_0 (qStg m c) ∗ stg c cc0_stg1_0 (kStg m c) ∗ stg c cc0_stg2_0 (vStg m c) ∗ stg c cc0_stg3_0 (outAt m c))

/-- A cell past its round closes at zero. -/
theorem close_one (p : Dev nD × Option (Fin 4 × Fin 7)) :
    iprop(recs m K ∗ atPos ER (cell p) 1 ∅ 0) ⊢ (|={Set.univ}=> semVal (cell p) 0 : sProp 𝕄) := by
  iintro ⟨#HR, Ha⟩
  iapply (Rounds.cell_close ER (sched m) (Set.mem_univ (K p)) (fun h => h) (R := 0 + 1) (duties_later m (cell p)))
  isplitr; · iapply (recs_inv m K p); iexact HR
  iexact Ha
theorem close_kind (c : Dev nD) (κ : Fin 4) :
    iprop(recs m K ∗ cellsAt (F := F) c κ 1) ⊢ (|={Set.univ}=> zeros (F := F) c κ : sProp 𝕄) := by
  unfold cellsAt zeros
  exact (mono_pers fun j _ => close_one m K (c, some (κ, j))).trans (bigSep_fupd _ _)

set_option maxRecDepth 4000 in
theorem sound_body (c : Dev nD) : bodyPre m c ⊢ wpc c (cc0_body (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) (fun _ => bodyPost m c) := by
  unfold bodyPre Φ₀ start G' scr places payToks
  iintro ⟨⟨⟨⟨%K, #HR, ⟨HA, A0, A1, A2, A3⟩, Ts, Tk, Tv⟩, ⟨HC, C1, C3⟩, HL⟩, Hk, Hv, Hp⟩, Ho,
    ⟨%d0, %g0, %h0, H0⟩, ⟨%d1, %g1, %h1, H1⟩, ⟨%d2, %g2, %h2, H2⟩, ⟨%d3, %g3, %h3, H3⟩⟩
  have e0 : g0 = qStg m c := by rw [h0]; unfold Dat.before; rw [if_pos (fetch0_0 t₀)]; rfl
  have e1 : g1 = kStg m c := by rw [h1]; unfold Dat.before; rw [if_pos (fetch0_1 t₀)]; rfl
  have e2 : g2 = vStg m c := by rw [h2]; unfold Dat.before; rw [if_pos (fetch0_2 t₀)]; rfl
  subst e0; subst e1; subst e2
  unfold Dat.owesAt Pipeline.owesWithin
  icases Ho with ⟨%W, %hW, HO⟩
  rw [show (dats m 0 c).owed t₀.castSucc = OL (owedB c [0, 1, 2, 3, 4, 5, 6]) from rfl]
  iapply (body_spec m K c) $$ [HO HL Ts Tk Tv HC C1 C3 HA A0 A1 A2 A3 Hk Hv Hp H0 H1 H2 H3]
  · isplitr; · iexact HR
    unfold bodyIn owesX
    isplitl [HO]; · iexists W; iexact HO
    isplitl [HL]; · iexact HL
    isplitl [Ts]; · iexact Ts
    isplitl [Tk]; · iexact Tk
    isplitl [Tv]; · iexact Tv
    isplitl [HC]; · iexact HC
    isplitl [C1]; · iexact C1
    isplitl [C3]; · iexact C3
    isplitl [HA]; · iexact HA
    isplitl [A0]; · iexact A0
    isplitl [A1]; · iexact A1
    isplitl [A2]; · iexact A2
    isplitl [A3]; · iexact A3
    isplitl [Hk]; · iexact Hk
    isplitl [Hv]; · iexact Hv
    isplitl [Hp]; · iexact Hp
    isplitl [H0]; · iexact H0
    isplitl [H1]; · iexact H1
    isplitl [H2]; · iexact H2
    iexists g3; iexact H3
  unfold bodyOut owesX
  iintro ⟨⟨%W', HO⟩, HA, A0, A1, A2, A3, Hk, Hv, Hp, H0, H1, H2, H3⟩
  imod (close_one m K (c, none)) $$ [HA] with HA
  · isplitr; · iexact HR
    iexact HA
  imod (close_kind m K c 0) $$ [A0] with A0
  · isplitr; · iexact HR
    iexact A0
  imod (close_kind m K c 1) $$ [A1] with A1
  · isplitr; · iexact HR
    iexact A1
  imod (close_kind m K c 2) $$ [A2] with A2
  · isplitr; · iexact HR
    iexact A2
  imod (close_kind m K c 3) $$ [A3] with A3
  · isplitr; · iexact HR
    iexact A3
  imodintro
  unfold bodyPost Φ₁ scr Dat.owesAt Pipeline.owesWithin
  rw [show (dats m 0 c).owed t₀.succ = OL [] from rfl]
  isplitl [HA A0 A1 A2 A3 Hk Hv Hp]
  · isplitl [Hk Hv Hp]
    · isplitl [Hk]; · iexists _; iexact Hk
      isplitl [Hv]; · iexists _; iexact Hv
      iexists _; iexact Hp
    isplitl [HA]; · iexact HA
    isplitl [A0]; · iexact A0
    isplitl [A1]; · iexact A1
    isplitl [A2]; · iexact A2
    iexact A3
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

theorem body_at : (defs₀ (F := F)) Proc.tc (0 : Fin 1) (t₀, cfg0.slots t₀) = cc0_body (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 := rfl

set_option maxRecDepth 4000 in
theorem body_obligation (c : Dev nD) : Pipeline.BodyObligation (dats m 0 c) (defs₀ (F := F)) 𝒱₀ () Set.univ := fun t => by
  rw [only_t₀ t]
  rw [bigSep_W, bigSep_W]
  simp only [owns_whole_eq]
  rw [body_at, show (dats m 0 c).Φ t₀.castSucc = Φ₀ m c from rfl, show (dats m 0 c).Φ t₀.succ = Φ₁ c from rfl]
  have h := sound_body m c
  unfold bodyPre bodyPost wpc at h
  generalize cc0_body (F := F) = B at h ⊢
  exact h

/-! ## The cells and the duties at the launch -/

theorem ownSemFacts : Pipeline.OwnSemFacts cfg0.spec osem := by decide

theorem share_eq (c : Dev nD) (w : Fin cfg0.W) : (dats m 0 c).share w = fullShare := by unfold Dat.share; split <;> rfl

def allCells : Finset (GSem nD τ sig) := Finset.univ.map ⟨cell, cell_injective⟩

/-- Device by device, the duties at its cells: those of its barrier cell, then the one of each transfer cell. -/
abbrev tokOf (p : Dev nD × Option (Fin 4) × Fin 7) : GSem nD τ sig × ℕ × Fin 7 :=
  match p.2.1 with
  | none => (bar p.1, 0, p.2.2)
  | some κ => (xc κ p.1 p.2.2, 0, 0)
theorem tokOf_injective : Function.Injective tokOf := by
  rintro ⟨c, o, j⟩ ⟨c', o', j'⟩ h
  have hc := cell_injective.eq_iff (a := (c, match o with | none => none | some κ => some (κ, j)))
    (b := (c', match o' with | none => none | some κ => some (κ, j')))
  have h1 := congrArg Prod.fst h
  have h2 := congrArg (fun x : GSem nD τ sig × ℕ × Fin 7 => x.2.2) h
  match o, o' with
  | none, none =>
    have e := hc.mp h1
    have e1 : c = c' := congrArg Prod.fst e
    have e2 : j = j' := h2
    rw [e1, e2]
  | none, some _ => exact absurd (congrArg Prod.snd (hc.mp h1)) (fun e => by cases e)
  | some _, none => exact absurd (congrArg Prod.snd (hc.mp h1)) (fun e => by cases e)
  | some κ, some κ' =>
    have e := hc.mp h1
    have e1 : c = c' := congrArg Prod.fst e
    have e2 : (κ, j) = (κ', j') := Option.some.inj (congrArg Prod.snd e)
    have e3 : κ = κ' := congrArg Prod.fst e2
    have e4 : j = j' := congrArg Prod.snd e2
    rw [e1, e3, e4]
def allToks : Finset (GSem nD τ sig × ℕ × Fin 7) := Finset.univ.map ⟨tokOf, tokOf_injective⟩

def u₀ : UU := (initOf (Pipeline.cells cfgs cellOf_inj) (Pipeline.launchToks cfgs cellOf_inj), initOf allCells allToks)

/-- The duties at the cells of device `c`. -/
def toks (c : Dev nD) : sProp 𝕄 :=
  iprop((bigSep Finset.univ fun j : Fin 7 => dutyTok ER (bar c) 0 j) ∗ (bigSep Finset.univ fun j : Fin 7 => dutyTok ER (xc 0 c j) 0 0)
    ∗ (bigSep Finset.univ fun j : Fin 7 => dutyTok ER (xc 1 c j) 0 0) ∗ (bigSep Finset.univ fun j : Fin 7 => dutyTok ER (xc 2 c j) 0 0)
    ∗ (bigSep Finset.univ fun j : Fin 7 => dutyTok ER (xc 3 c j) 0 0))

abbrev Cells := Option (Fin 4 × Fin 7)

def G (c : Dev nD) : sProp 𝕄 :=
  iprop((bigSep Finset.univ fun x : Cells => roundState ER (sched m) (cell (c, x)) 0)
    ∗ (bigSep Finset.univ fun x : Cells => iprop(atPos ER (cell (c, x)) 0 ∅ 0 ∗ reached ER (cell (c, x)) 0)) ∗ toks (F := F) c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun x : Cells => Φ (cell (c, x)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    refine bigSep_congr fun c _ => ?_
    unfold toks; rw [bigSep_univ_prod, optSplit, four]; rfl
  iintro HX
  imod (Rounds.fund ER (sched m) allCells allToks) $$ HX with ⟨Hst, Hr, Hat, Htok⟩
  imodintro
  ihave Hst := (Entails.of_eq (hX fun g => roundState ER (sched m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

theorem ownSems0_eq (c : Dev nD) : (Pipeline.ownSems0 (Ix := Unit) (Name := ℕ) (U := UU) (Lvl := ℕ) (Val := Elt F) (τ := τ) osem c : sProp 𝕄)
    = iprop(zeros (F := F) c 0 ∗ zeros (F := F) c 1 ∗ zeros (F := F) c 2 ∗ zeros (F := F) c 3) := by
  unfold Pipeline.ownSems0 zeros
  rw [bigSep_univ_prod, four]
  rfl
theorem unscopedSems0_eq (c : Dev nD) : (unscopedSems0 c : sProp 𝕄) = semVal (bar c) 0 := by
  unfold unscopedSems0; rw [bigSep_eq_bigSepL_of_eq [SemLoc.reg barS] (by decide) (by decide)]; rfl

/-- The invariants of one device's cells set up. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Cells => iprop(∃ κ : ℕ, cellInv ER (sched m) κ (cell (c, x))))
          ∗ (bigSep Finset.univ fun x : Cells => iprop(atPos ER (cell (c, x)) 0 ∅ 0 ∗ reached ER (cell (c, x)) 0)) ∗ toks (F := F) c) := by
  have hz : (bigSep Finset.univ fun x : Cells => (semVal (cell (c, x)) 0 : sProp 𝕄))
      = iprop(semVal (bar c) 0 ∗ zeros (F := F) c 0 ∗ zeros (F := F) c 1 ∗ zeros (F := F) c 2 ∗ zeros (F := F) c 3) := cellSplit _
  have halloc : iprop((bigSep Finset.univ fun x : Cells => semVal (cell (c, x)) 0) ∗ bigSep Finset.univ fun x : Cells => roundState ER (sched m) (cell (c, x)) 0)
      ⊢ (|={Set.univ}=> bigSep Finset.univ fun x : Cells => iprop(∃ κ : ℕ, cellInv ER (sched m) κ (cell (c, x))) : sProp 𝕄) := by
    rw [← bigSep_sep']
    exact (bigSep_mono fun x _ => (Rounds.body_intro ER (sched m) (cell (c, x))).trans inv_alloc).trans (bigSep_fupd _ _)
  rw [ownSems0_eq, unscopedSems0_eq]
  unfold G
  iintro ⟨Hz, Hb, Hst, Hat, Htok⟩
  imod halloc $$ [Hz Hb Hst] with Hinv
  · isplitl [Hz Hb]
    · rw [hz]; isplitl [Hb]; · iexact Hb
      iexact Hz
    iexact Hst
  imodintro
  isplitl [Hinv]; · iexact Hinv
  isplitl [Hat]; · iexact Hat
  iexact Htok

theorem pair_up (A B C D E : sProp 𝕄) : iprop(A ∗ B ∗ C ∗ D ∗ E) = iprop(A ∗ (B ∗ C) ∗ D ∗ E) := by
  have h1 : iprop(A ∗ B ∗ C ∗ D ∗ E) ⊢ iprop(A ∗ (B ∗ C) ∗ D ∗ E) := by
    iintro ⟨H1, H2, H3, H4, H5⟩
    isplitl [H1]; · iexact H1
    isplitl [H2 H3]
    · isplitl [H2]; · iexact H2
      iexact H3
    isplitl [H4]; · iexact H4
    iexact H5
  have h2 : iprop(A ∗ (B ∗ C) ∗ D ∗ E) ⊢ iprop(A ∗ B ∗ C ∗ D ∗ E) := by
    iintro ⟨H1, ⟨H2, H3⟩, H4, H5⟩
    isplitl [H1]; · iexact H1
    isplitl [H2]; · iexact H2
    isplitl [H3]; · iexact H3
    isplitl [H4]; · iexact H4
    iexact H5
  exact Entails.antisymm h1 h2

/-- Every duty goes to the device that pays it. -/
theorem toks_around : (bigSep Finset.univ fun c : Dev nD => toks (F := F) c) = bigSep Finset.univ fun c : Dev nD => payToks (F := F) c := by
  have hp (c : Dev nD) : payToks (F := F) c
      = iprop((bigSep Finset.univ fun j : Fin 7 => dutyTok ER (bar (peer c j)) 0 j.rev)
        ∗ ((bigSep Finset.univ fun j : Fin 7 => dutyTok ER (xc 0 c j) 0 0) ∗ (bigSep Finset.univ fun j : Fin 7 => dutyTok ER (xc 1 (peer c j) j.rev) 0 0))
        ∗ ((bigSep Finset.univ fun j : Fin 7 => dutyTok ER (xc 2 c j) 0 0) ∗ (bigSep Finset.univ fun j : Fin 7 => dutyTok ER (xc 3 (peer c j) j.rev) 0 0))) := by
    unfold payToks sigTok kTok vTok
    rw [bigSep_sep', bigSep_sep']
  rw [bigSep_congr fun (c : Dev nD) _ => hp c]
  unfold toks
  simp only [bigSep_sep']
  rw [from_payer fun c j => (dutyTok ER (bar c) 0 j : sProp 𝕄), from_payer fun c j => (dutyTok ER (xc 1 c j) 0 0 : sProp 𝕄),
    from_payer fun c j => (dutyTok ER (xc 3 c j) 0 0 : sProp 𝕄)]
  exact pair_up _ _ _ _ _

theorem places_all : (bigSep Finset.univ fun c : Dev nD => bigSep Finset.univ fun x : Cells => (atPos ER (cell (c, x)) 0 ∅ 0 : sProp 𝕄))
    ⊢ bigSep Finset.univ fun c : Dev nD => places (F := F) c :=
  bigSep_mono fun c _ => Entails.of_eq (cellSplit _)

theorem regroup :
    (bigSep Finset.univ fun c : Dev nD => iprop((bigSep Finset.univ fun x : Cells => iprop(∃ κ : ℕ, cellInv ER (sched m) κ (cell (c, x))))
          ∗ (bigSep Finset.univ fun x : Cells => iprop(atPos ER (cell (c, x)) 0 ∅ 0 ∗ reached ER (cell (c, x)) 0)) ∗ toks (F := F) c) : sProp 𝕄)
      ⊢ bigSep Finset.univ (G' m) := by
  rw [bigSep_sep', bigSep_sep', ← bigSep_univ_prod (fun p : Dev nD × Cells => iprop(∃ κ : ℕ, cellInv ER (sched m) κ (cell p))),
    bigSep_congr (s := Finset.univ) (fun (c : Dev nD) _ => bigSep_sep' Finset.univ (fun x : Cells => (atPos ER (cell (c, x)) 0 ∅ 0 : sProp 𝕄)) (fun x => reached ER (cell (c, x)) 0)),
    bigSep_sep', ← bigSep_univ_prod (fun p : Dev nD × Cells => (reached ER (cell p) 0 : sProp 𝕄)), toks_around]
  iintro ⟨HI, ⟨Hat, #HR⟩, Htok⟩
  ihave HK := (BI.bigSep_exists_pi Finset.univ (fun (p : Dev nD × Cells) (κ : ℕ) => (cellInv ER (sched m) κ (cell p) : sProp 𝕄))) $$ HI
  icases HK with ⟨%K, #HI⟩
  iapply (mono_pers (R := recs m K) (Φ := fun c : Dev nD => iprop(places (F := F) c ∗ payToks (F := F) c)) fun c _ => by
    unfold G'
    iintro ⟨#H, H'⟩
    iexists K
    isplitr; · iexact H
    iexact H')
  isplitr
  · unfold recs; isplitl; · iexact HI
    iexact HR
  rw [bigSep_sep']
  isplitl [Hat]
  · iapply (places_all (F := F))
    iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The units on their way to each cell -/

/-- How often a cell stands in a list of cells. -/
def times (p : Dev nD × Cells) (l : List (Dev nD × Cells)) : ℕ := l.countP (· = p)

theorem OL_run (p : Dev nD × Cells) (n : ℕ) (f : Fin 7 → Dev nD × Cells) (js : List (Fin 7)) (l : List (GSem nD τ sig × ℕ)) :
    OL (js.map (fun j => (cell (f j), n)) ++ l) (cell p) () = times p (js.map f) * n + OL l (cell p) () := by
  induction js with
  | nil => simp [times]
  | cons j js ih =>
    show (OL (js.map (fun j => (cell (f j), n)) ++ l) + tallyAt (cell (f j)) () n) (cell p) () = _
    rw [Pi.add_apply, Finsupp.add_apply, ih, tallyAt_apply]
    unfold times
    rw [List.map_cons, List.countP_cons]
    by_cases h : f j = p
    · rw [if_pos ⟨by rw [h], rfl⟩, if_pos (by simpa using h), Nat.add_mul, Nat.one_mul]; omega
    · rw [if_neg (fun hh => h (cell_injective hh.1).symm), if_neg (by simpa using h), Nat.add_zero, Nat.add_zero]

def barsOf (d : Dev nD) : List (Dev nD × Cells) := [0, 1, 2, 3, 4, 5, 6].map fun j : Fin 7 => (peer d j, none)
def xsOf (κ : Fin 4) (d : Dev nD) : List (Dev nD × Cells) := order.map fun j : Fin 7 => (peer d j, some (κ, j.rev))

theorem owed_at (d : Dev nD) (p : Dev nD × Cells) :
    O₀ d (cell p) () = times p (barsOf d) * 1 + (times p (xsOf 1 d) * NK + (times p (xsOf 3 d) * NV + 0)) := by
  have e : O₀ d = OL (([0, 1, 2, 3, 4, 5, 6] : List (Fin 7)).map (fun j => (cell (peer d j, none), 1))
      ++ (order.map (fun j => (cell (peer d j, some (1, j.rev)), NK)) ++ (order.map (fun j => (cell (peer d j, some (3, j.rev)), NV)) ++ []))) := by
    unfold O₀ owedB owedK owedV
    simp only [List.append_nil, List.append_assoc]
  rw [e, OL_run p 1 fun j => (peer d j, none), OL_run p NK fun j => (peer d j, some (1, j.rev)), OL_run p NV fun j => (peer d j, some (3, j.rev))]
  rfl

theorem sum_owed (p : Dev nD × Cells) : ∑ d : Dev nD, O₀ d (cell p) ()
    = (∑ d : Dev nD, times p (barsOf d)) * 1 + ((∑ d : Dev nD, times p (xsOf 1 d)) * NK + (∑ d : Dev nD, times p (xsOf 3 d)) * NV) := by
  rw [Finset.sum_congr rfl fun d _ => owed_at d p]
  simp only [Finset.sum_add_distrib, Finset.sum_mul, Finset.sum_const_zero, Nat.add_zero]

theorem count_bar : ∀ c : Dev nD, (∑ d : Dev nD, times (c, none) (barsOf d)) = 7 ∧ (∑ d : Dev nD, times (c, none) (xsOf 1 d)) = 0
    ∧ (∑ d : Dev nD, times (c, none) (xsOf 3 d)) = 0 := by decide +kernel
theorem count_k : ∀ (c : Dev nD) (j : Fin 7), (∑ d : Dev nD, times (c, some (1, j)) (barsOf d)) = 0
    ∧ (∑ d : Dev nD, times (c, some (1, j)) (xsOf 1 d)) = 1 ∧ (∑ d : Dev nD, times (c, some (1, j)) (xsOf 3 d)) = 0 := by decide +kernel
theorem count_v : ∀ (c : Dev nD) (j : Fin 7), (∑ d : Dev nD, times (c, some (3, j)) (barsOf d)) = 0
    ∧ (∑ d : Dev nD, times (c, some (3, j)) (xsOf 1 d)) = 0 ∧ (∑ d : Dev nD, times (c, some (3, j)) (xsOf 3 d)) = 1 := by decide +kernel

theorem launch_at (p : Dev nD × Cells) (n : ℕ) (h : ∑ d : Dev nD, O₀ d (cell p) () = n) :
    tallyOn (cell p) (launchCredit (Pipeline.owing O₀) 0 (cell p)) = (tallyAt (cell p) () n : CellTallies nD τ sig Unit) := by
  unfold tallyAt
  refine congrArg _ (Finsupp.ext fun u => ?_)
  cases u
  rw [Pipeline.launchCredit_owing, Finsupp.single_eq_same]
  exact h

theorem launch_bar (c : Dev nD) : tallyOn (bar c) (launchCredit (Pipeline.owing O₀) 0 (bar c)) = (tallyAt (bar c) () 7 : CellTallies nD τ sig Unit) :=
  launch_at (c, none) 7 (by rw [sum_owed, (count_bar c).1, (count_bar c).2.1, (count_bar c).2.2]; omega)
theorem launch_k (c : Dev nD) (j : Fin 7) :
    tallyOn (xc 1 c j) (launchCredit (Pipeline.owing O₀) 0 (xc 1 c j)) = (tallyAt (xc 1 c j) () (nOf 1) : CellTallies nD τ sig Unit) :=
  launch_at (c, some (1, j)) (nOf 1) (by rw [sum_owed, (count_k c j).1, (count_k c j).2.1, (count_k c j).2.2, nOf_1]; omega)
theorem launch_v (c : Dev nD) (j : Fin 7) :
    tallyOn (xc 3 c j) (launchCredit (Pipeline.owing O₀) 0 (xc 3 c j)) = (tallyAt (xc 3 c j) () (nOf 3) : CellTallies nD τ sig Unit) :=
  launch_at (c, some (3, j)) (nOf 3) (by rw [sum_owed, (count_v c j).1, (count_v c j).2.1, (count_v c j).2.2, nOf_3]; omega)

theorem creds (c : Dev nD) :
    (Pipeline.launchCred O₀ c : sProp 𝕄) ⊢ iprop(cred (tallyAt (bar c) () 7) ∗ credsOf (F := F) c 1 ∗ credsOf (F := F) c 3) := by
  have hsub : (Pipeline.launchCred O₀ c : sProp 𝕄)
      ⊢ bigSep Finset.univ fun x : Cells => cred (tallyOn (cell (c, x)) (launchCredit (Pipeline.owing O₀) 0 (cell (c, x)))) := by
    unfold Pipeline.launchCred
    exact (BI.bigSep_subset (M := 𝕄) (Finset.subset_univ (Finset.univ.map ⟨csem, csem_injective⟩))).trans (Entails.of_eq (bigSep_map _))
  refine hsub.trans ?_
  rw [cellSplit, launch_bar]
  unfold credsOf
  simp only [← launch_k, ← launch_v]
  iintro ⟨H, -, Hk, -, Hv⟩
  isplitl [H]; · iexact H
  isplitl [Hk]; · iexact Hk
  iexact Hv

/-! ## The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ scr
  iintro ⟨Hr, Hb, Hz⟩
  isplitl [Hb]; · iexact Hb
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What window `w`'s array of device `c` holds at the end. -/
def finalA (c : Dev nD) (w : Fin cfg0.W) : Buf (Elt F) ((cfg0.win w).arr.view.loc (c : Thread nD τ)) := (dats m 0 c).arrAt w cfg0.N

set_option maxRecDepth 8000 in
/-- From any memory, counters at zero, every fair execution of the eight devices ends with each array at its
    computed contents and every counter at zero. -/
theorem run_main : θ_run defs (onTc (τ := τ) (main (F := F))) ⟨m, fun _ => 0, ρ⟩
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they began. -/
theorem finalA_in (c : Dev nD) (w : Fin cfg0.W) (hw : w = (0 : Fin 4) ∨ w = (1 : Fin 4) ∨ w = (2 : Fin 4)) :
    finalA m c w = m ((cfg0.win w).arr.view.loc (c : Thread nD τ)) := by
  rcases hw with rfl | rfl | rfl
  · exact (dats m 0 c).arrAt_in (0 : Fin 4) rfl _
  · exact (dats m 0 c).arrAt_in (1 : Fin 4) rfl _
  · exact (dats m 0 c).arrAt_in (2 : Fin 4) rfl _

/-- The run, of the arguments alone. -/
theorem run_args : θ_run defs (onTc (τ := τ) (main (F := F))) ⟨m, fun _ => 0, ρ⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c (0 : Fin 4)).trans (finalA_in m c _ (Or.inl rfl)),
    (h.1 c (1 : Fin 4)).trans (finalA_in m c _ (Or.inr (Or.inl rfl))), (h.1 c (2 : Fin 4)).trans (finalA_in m c _ (Or.inr (Or.inr rfl)))⟩, h.2⟩)
    (run_main m ρ)

end Cert.Attn

end
-- ==== Proof.Same.lean ====
/-
The kernel as printed and its idealization are one text: what was proved of the second over any float values is true
of the first.
-/
module

public import proofs.«01_k».proof.Proof.Launch
public import proofs.«01_k».proof.Defs
public import proofs.«01_k».proof.Proof.Gen.Kernel

@[expose] public section

noncomputable section

namespace Cert.Attn

open Idealize.ShloMosaic Idealize.SL.Sem

set_option maxRecDepth 100000 in
/-- The two tables of calls agree, label by label. -/
theorem table_eq : @Cert.Kernel.defs₀ Bits _ _ = @Cert.KernelIdeal.defs₀ Bits _ _ := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) ?_
  funext l x
  obtain ⟨l, hl⟩ := l
  cases l with
  | zero => rfl
  | succ n => exact absurd hl (Nat.not_lt.2 (Nat.le_add_left _ _))

theorem defs_eq : @Cert.Kernel.defs Bits _ _ = @Cert.KernelIdeal.defs Bits _ _ := by
  unfold Cert.Kernel.defs Cert.KernelIdeal.defs
  rw [table_eq]
  rfl

theorem main_eq : @Cert.Kernel.main Bits _ = @Cert.KernelIdeal.main Bits _ := rfl

/-- The kernel at the words: it terminates, keeps its arguments and ends with every counter at zero. -/
theorem frame_kernel : Cert.quiescent_Kernel := fun m ρ _ => by
  rw [defs_eq, main_eq]
  exact run_args (F := Bits) m ρ

end Cert.Attn

end
-- ==== Proof.Softmax.lean ====
/-
Weights that sum to one, on the extended reals: the quotient of two sums is the sum of the quotients, with or without a
shift of the exponents. The values the weights multiply may be infinite.
-/
module

public import Idealize.ShloMosaic.PureOps.Ideal.Laws
public import Idealize.ShloMosaic.Lib.IdealHost
public import Idealize.ShloMosaic.Lib.SortNet.Extract

@[expose] public section

noncomputable section

namespace Cert.Attn

open Idealize.ShloMosaic
open scoped BigOperators

variable {ι : Type} [Fintype ι]

/-- A finite sum of reals, as an extended real. -/
theorem coe_sum (f : ι → ℝ) : ((∑ j, f j : ℝ) : EReal) = ∑ j, (f j : EReal) := by
  classical
  induction (Finset.univ : Finset ι) using Finset.induction_on with
  | empty => simp
  | insert a s h ih => rw [Finset.sum_insert h, Finset.sum_insert h, EReal.coe_add, ih]

/-- A product with a real that is not negative goes into a sum. -/
theorem sum_mul_real (f : ι → EReal) (r : ℝ) (hr : 0 ≤ r) : (∑ j, f j) * (r : EReal) = ∑ j, f j * (r : EReal) := by
  classical
  induction (Finset.univ : Finset ι) using Finset.induction_on with
  | empty => simp
  | insert a s h ih =>
    rw [Finset.sum_insert h, Finset.sum_insert h, ← ih, mul_comm, mul_comm (f a), mul_comm (∑ j ∈ s, f j)]
    exact EReal.left_distrib_of_nonneg_of_ne_top (EReal.coe_nonneg.mpr hr) (EReal.coe_ne_top r) _ _

/-- Division by a real that is not zero. -/
theorem div_real (x : EReal) (r : ℝ) (hr : r ≠ 0) : Ideal.div x (r : EReal) = x * ((r⁻¹ : ℝ) : EReal) := by
  unfold Ideal.div
  rw [if_neg (EReal.coe_ne_zero.mpr hr), EReal.coe_inv]

/-- Weights by exponentials, divided after the sum, are the weights by shifted exponentials, divided before it. -/
theorem weights [Nonempty ι] (s : ι → ℝ) (a : ℝ) (V : ι → EReal) :
    Ideal.div (∑ j, ((Real.exp (s j) : ℝ) : EReal) * V j) (∑ j, ((Real.exp (s j) : ℝ) : EReal) * 1)
      = ∑ j, Ideal.div ((Real.exp (s j - a) : ℝ) : EReal) (∑ i, ((Real.exp (s i - a) : ℝ) : EReal)) * V j := by
  have hL : 0 < ∑ j, Real.exp (s j) := Finset.sum_pos (fun j _ => Real.exp_pos _) Finset.univ_nonempty
  have hZ : 0 < ∑ j, Real.exp (s j - a) := Finset.sum_pos (fun j _ => Real.exp_pos _) Finset.univ_nonempty
  have e1 : (∑ j, ((Real.exp (s j) : ℝ) : EReal) * 1) = ((∑ j, Real.exp (s j) : ℝ) : EReal) := by
    rw [coe_sum]; exact Finset.sum_congr rfl fun j _ => mul_one _
  have hz : (∑ j, Real.exp (s j - a)) = (∑ j, Real.exp (s j)) * (Real.exp a)⁻¹ := by
    rw [Finset.sum_mul]; exact Finset.sum_congr rfl fun j _ => by rw [Real.exp_sub, div_eq_mul_inv]
  rw [e1, ← coe_sum, div_real _ _ hL.ne', sum_mul_real _ _ (inv_nonneg.mpr hL.le)]
  refine Finset.sum_congr rfl fun j _ => ?_
  rw [div_real _ _ hZ.ne', mul_right_comm, ← EReal.coe_mul, ← EReal.coe_mul]
  congr 2
  rw [hz, Real.exp_sub, mul_inv, inv_inv, div_eq_mul_inv]
  have := Real.exp_pos a
  field_simp

/-- A fold of the maximum from `⊥` over a list that is not empty, of values that are real, is real. -/
theorem foldl_max_real {κ : Type} (f : κ → EReal) (l : List κ) (x : κ) (hx : x ∈ l) (hf : ∀ y, ∃ r : ℝ, f y = r) :
    ∃ r : ℝ, l.foldl (fun acc y => max acc (f y)) ⊥ = r := by
  rcases SortNet.foldl_max_mem f l ⊥ with h | ⟨y, _, h⟩
  · have hle := (SortNet.le_foldl_max f l ⊥).2 x hx
    obtain ⟨r, hr⟩ := hf x
    rw [h, hr] at hle
    exact absurd hle (not_le.mpr (EReal.bot_lt_coe r))
  · obtain ⟨r, hr⟩ := hf y
    exact ⟨r, h.trans hr⟩

/-- The f32 patterns the two programs name. -/
theorem eighth_f32 : Ideal.ofBits .f32 0x3E000000#32 = (((1 : ℝ) / 8 : ℝ) : EReal) := by
  simp [Ideal.ofBits, Ideal.ieee, -EReal.coe_mul]; norm_num

theorem sixtyfour_f32 : Ideal.ofBits .f32 0x42800000#32 = ((64 : ℝ) : EReal) := by
  simp [Ideal.ofBits, Ideal.ieee, -EReal.coe_mul]; norm_num

theorem top_f32 : Ideal.ofBits .f32 0x7F800000#32 = (⊤ : EReal) := by
  simp [Ideal.ofBits, Ideal.ieee]

theorem bot_f32 : Ideal.ofBits .f32 0xFF800000#32 = (⊥ : EReal) := by
  simp [Ideal.ofBits, Ideal.ieee]

theorem sqrt_sixtyfour : Ideal.sqrt ((64 : ℝ) : EReal) = ((8 : ℝ) : EReal) := by
  have h : Ideal.sqrt ((64 : ℝ) : EReal) = if (64 : ℝ) < 0 then ⊥ else ((Real.sqrt 64 : ℝ) : EReal) := rfl
  rw [h, if_neg (by norm_num), show (64 : ℝ) = 8 * 8 by norm_num, Real.sqrt_mul_self (by norm_num)]

/-- The scores, scaled before the sum or after it. -/
theorem score_before (q k : ι → ℝ) :
    (∑ t, ((q t : EReal) * (((1 : ℝ) / 8 : ℝ) : EReal)) * (k t : EReal)) = (((∑ t, q t * k t) / 8 : ℝ) : EReal) := by
  rw [Finset.sum_div, coe_sum]
  refine Finset.sum_congr rfl fun t _ => ?_
  rw [← EReal.coe_mul, ← EReal.coe_mul]
  congr 1; ring

theorem score_after (q k : ι → ℝ) :
    Ideal.div (∑ t, (q t : EReal) * (k t : EReal)) ((8 : ℝ) : EReal) = (((∑ t, q t * k t) / 8 : ℝ) : EReal) := by
  rw [div_real _ _ (by norm_num), show (∑ t, (q t : EReal) * (k t : EReal)) = ((∑ t, q t * k t : ℝ) : EReal) by
    rw [coe_sum]; exact Finset.sum_congr rfl fun t _ => (EReal.coe_mul _ _).symm, ← EReal.coe_mul, div_eq_mul_inv]

end Cert.Attn

end
-- ==== Proof.KernelValue.lean ====
/-
The kernel's values read at an index, at the ideal instance.
-/
module

public import proofs.«01_k».proof.Proof.Protocol
public import proofs.«01_k».proof.Proof.Softmax
public import Idealize.ShloMosaic.Lib.MatmulPlain
public import Idealize.ShloMosaic.Lib.Pipeline.Value
public import Idealize.ShloMosaic.Lib.ValueLayout

@[expose] public section

noncomputable section

namespace Cert.Attn

open Cert.KernelIdeal Cert.KernelIdeal.Gen

open Idealize.ShloMosaic
open Idealize.ShloMosaic.TcCoe
open Idealize.ShloMosaic.ValueIdx
open scoped BigOperators

/-- A key block as stored: the device's rows under one leading coordinate. -/
theorem pay1_apply (k : Vec Ideal S256x64 .f32) (u : Fin 1) (j : Fin 256) (t : Fin 64) :
    k0_pay1 (F := Ideal) k (ix3 u j t) = k (ix2 j t) := by
  unfold k0_pay1
  refine (shapeCast_addUnit_apply ![256, 64] _ _ (ix3 u j t)).trans ?_
  rw [shapeCast_self]
  refine congrArg k (funext fun a => ?_)
  match a with
    | ⟨0, _⟩ => rfl
    | ⟨1, _⟩ => rfl

theorem pay2_apply (v : Vec Ideal S256x64 .f32) (i : S256x64.Idx) : k0_pay2 (F := Ideal) v i = v i := by
  unfold k0_pay2
  rw [shapeCast_self, shapeCast_self]
  rfl

/-- The scaled queries. -/
theorem pay3_apply (q : Vec Ideal S256x64 .f32) (i : S256x64.Idx) :
    k0_pay3 (F := Ideal) q i = q i * (((1 : ℝ) / 8 : ℝ) : EReal) := by
  unfold k0_pay3
  rw [shapeCast_self, ← eighth_f32]
  rfl

/-- A tile of weights: the exponential of the scores. -/
theorem pay4_apply (q : FVec Ideal S256x64 .bf16) (k : Vec Ideal S1x256x64 .bf16) (i j : Fin 256) :
    k0_pay4 (F := Ideal) q k (ix2 i j) = Ideal.exp (∑ t : Fin 64, q (ix2 i t) * k (ix3 (0 : Fin 1) j t)) := by
  unfold k0_pay4
  rw [shapeCast_self]
  have h := Ideal.matmul_transposedRhs_apply (M := 256) (K := 64) (N := 256) (φ₁ := .bf16) (φ₂ := .bf16) none q (shapeCast S256x64 k shapeCasts_S1x256x64_S256x64)
    (constant S256x256 .f32 0x00000000#32) i j
  refine congrArg Ideal.exp (h.trans ?_)
  rw [constant_apply]
  refine Eq.trans (congrArg (· + _) Ideal.ofBits_zero_f32) ((zero_add _).trans ?_)
  refine Finset.sum_congr rfl fun t _ => congrArg (q (ix2 i t) * ·) ?_
  exact shapeCast_1ab_ab_apply k shapeCasts_S1x256x64_S256x64 j t

/-- The values beside a column of ones. -/
def withOnes (v : Vec Ideal S2048x64 .bf16) : FVec Ideal S2048x65 .bf16 :=
  concatenate S2048x65 1 [⟨S2048x64, v⟩, ⟨S2048x1, broadcast S2048x1 (Scalar.ofBits (F := Ideal) .bf16 0x3F80#16)⟩] concatenates_S2048x64_S2048x1_S2048x65_d1

theorem withOnes_left (v : Vec Ideal S2048x64 .bf16) (j : Fin 2048) (d : Fin 64) :
    withOnes v (ix2 j ⟨d.val, by have := d.isLt; omega⟩) = v (ix2 j d) := by
  unfold withOnes
  refine concatenate_pair_apply_left (t := S2048x65) (s₁ := S2048x64) (s₂ := S2048x1) 1 _ _ _ _ rfl (ix2 j d) (fun b => ?_)
  match b with
    | ⟨0, _⟩ => rfl
    | ⟨1, _⟩ => rfl

theorem withOnes_right (v : Vec Ideal S2048x64 .bf16) (j : Fin 2048) :
    withOnes v (ix2 j (⟨64, by omega⟩ : Fin 65)) = (1 : EReal) := by
  unfold withOnes
  refine (concatenate_pair_apply_right (t := S2048x65) (s₁ := S2048x64) (s₂ := S2048x1) 1 _ _ _ _ rfl rfl (ix2 j (0 : Fin 1)) (fun b hb => ?_) rfl).trans
    Ideal.ofBits_one_bf16
  match b with
    | ⟨0, _⟩ => rfl
    | ⟨1, _⟩ => exact absurd rfl hb

/-- The weighted sums: sixty-four columns of values and one of ones. -/
def sums (v : Vec Ideal S2048x64 .bf16) (p : Vec Ideal S256x2048 .bf16) : FVec Ideal S256x65 .f32 :=
  matmul (φ₁ := .bf16) dot_S256x2048_S2048x65_S256x65_1_0_0_1_n_n none p (withOnes v) (constant S256x65 .f32 0x00000000#32)

theorem sums_apply (v : Vec Ideal S2048x64 .bf16) (p : Vec Ideal S256x2048 .bf16) (i : Fin 256) (e : Fin 65) :
    sums v p (ix2 i e) = ∑ j : Fin 2048, p (ix2 i j) * withOnes v (ix2 j e) := by
  have h := Ideal.matmul_plain_apply (M := 256) (K := 2048) (N := 65) (φ₁ := .bf16) none p (withOnes v) (constant S256x65 .f32 0x00000000#32) i e
  refine h.trans ?_
  rw [constant_apply]
  exact Eq.trans (congrArg (· + _) Ideal.ofBits_zero_f32) (zero_add _)

/-- The result: each weighted sum divided by the sum of the weights. -/
theorem pay13_apply (v : Vec Ideal S2048x64 .bf16) (p : Vec Ideal S256x2048 .bf16) (i : Fin 256) (d : Fin 64) :
    k0_pay13 (F := Ideal) v p (ix2 i d)
      = Ideal.div (∑ j : Fin 2048, p (ix2 i j) * v (ix2 j d)) (∑ j : Fin 2048, p (ix2 i j) * 1) := by
  have e : k0_pay13 (F := Ideal) v p = divf (extractStridedSlice S256x64 ![0, 0] (sums v p) slices_S256x65_o0_0_S256x64)
      (broadcastTo S256x64 (extractStridedSlice S256x1 ![0, 64] (sums v p) slices_S256x65_o0_64_S256x1) broadcasts_S256x1_S256x64) := rfl
  rw [e]
  refine congrArg₂ Ideal.div ?_ ?_
  · refine (extractStridedSlice_apply _ _ _ (ix2 i d) (ix2 i ⟨d.val, by have := d.isLt; omega⟩) (fun a => ?_)).trans ?_
    · match a with
        | ⟨0, _⟩ => exact (Nat.zero_add _).symm
        | ⟨1, _⟩ => exact (Nat.zero_add _).symm
    · rw [sums_apply]
      exact Finset.sum_congr rfl fun j _ => congrArg (p (ix2 i j) * ·) (withOnes_left v j d)
  · refine (broadcastTo_apply _ _ (ix2 i d) (ix2 i (0 : Fin 1)) (fun a => ?_)).trans ?_
    · match a with
        | ⟨0, _⟩ => rfl
        | ⟨1, _⟩ => rfl
    · refine (extractStridedSlice_apply _ _ _ (ix2 i (0 : Fin 1)) (ix2 i (⟨64, by omega⟩ : Fin 65)) (fun a => ?_)).trans ?_
      · match a with
          | ⟨0, _⟩ => exact (Nat.zero_add _).symm
          | ⟨1, _⟩ => rfl
      · rw [sums_apply]
        exact Finset.sum_congr rfl fun j _ => congrArg (p (ix2 i j) * ·) (withOnes_right v j)

end Cert.Attn

end
-- ==== Proof.RefValue.lean ====
/-
The reference's result read at an index, at the ideal instance, for queries and keys that are real.
-/
module

public import proofs.«01_k».proof.Proof.Gen.ReferenceIdeal
public import proofs.«01_k».proof.Proof.Softmax
public import Idealize.ShloMosaic.Lib.StackMember
public import Idealize.ShloMosaic.Lib.Pipeline.Value
public import Idealize.ShloMosaic.Lib.ValueLayout
public import Idealize.ShloMosaic.Lib.Pointwise.Reduce

@[expose] public section

noncomputable section

namespace Cert.Attn.Ref

open Cert.ReferenceIdeal Cert.ReferenceIdeal.Gen

open Idealize.ShloMosaic hiding ix1 ix2 ix3
open Idealize.ShloMosaic.ValueIdx
open scoped BigOperators

/-- The scores. -/
def scores (q k : FVec Ideal S2048x64 .f32) : FVec Ideal S2048x2048 .f32 :=
  Host.divf (Host.dotGeneral dot_S2048x64_S64x2048_S2048x2048_1_0_0_1_n_n none q (transpose S64x2048 [1, 0] k transposes_S2048x64_S64x2048_1_0))
    (broadcastInDim S2048x2048 ![] bcast_S_S2048x2048 (id (Host.sqrt (constant S_ .f32 0x42800000#32))))

/-- A row's number spread over the row. -/
def spread (x : FVec Ideal S2048 .f32) : FVec Ideal S2048x2048 .f32 :=
  broadcastInDim S2048x2048 ![0, 1] bcast_S2048x1_S2048x2048_0_1 (broadcastInDim S2048x1 ![0] bcast_S2048_S2048x1_0 x)

/-- The greatest score of each row. -/
def rowMax (s : FVec Ideal S2048x2048 .f32) : FVec Ideal S2048 .f32 :=
  Host.reduce FloatOps.maximumf s (constant S_ .f32 0xFF800000#32) reducesTo_S2048x2048_S2048_d1 h_S_

/-- The exponentials of the shifted scores. -/
def expo (s : FVec Ideal S2048x2048 .f32) : FVec Ideal S2048x2048 .f32 := Host.exp (subf s (spread (rowMax s)))

/-- Each row's sum. -/
def rowSum (e : FVec Ideal S2048x2048 .f32) : FVec Ideal S2048 .f32 :=
  Host.reduceAdd e (constant S_ .f32 0x00000000#32) reducesTo_S2048x2048_S2048_d1 h_S_

/-- The result of the reference. -/
def result (q k v : FVec Ideal S2048x64 .f32) : FVec Ideal S2048x64 .f32 :=
  Host.dotGeneral dot_S2048x2048_S2048x64_S2048x64_1_0_0_1_n_n none
    (Host.divf (expo (scores q k)) (spread (rowSum (expo (scores q k))))) v

/-- An index as its two coordinates. -/
theorem at_pair {n m : ℕ} (x : (⟨2, ![n, m]⟩ : Shape).Idx) : x = ix2 (x 0) (x 1) :=
  funext fun a => match a with | ⟨0, _⟩ => rfl | ⟨1, _⟩ => rfl

theorem spread_apply (x : FVec Ideal S2048 .f32) (i j : Fin 2048) : spread x (ix2 i j) = x (ix1 i) := by
  unfold spread
  refine (broadcastInDim_apply _ _ _ (ix2 i j) (ix2 i (0 : Fin 1)) (fun a => ?_)).trans
    (broadcastInDim_apply _ _ _ (ix2 i (0 : Fin 1)) (ix1 i) (fun a => ?_))
  · match a with
      | ⟨0, _⟩ => rfl
      | ⟨1, _⟩ => rfl
  · match a with
      | ⟨0, _⟩ => rfl

theorem scores_apply (q k : FVec Ideal S2048x64 .f32) (qr kr : Fin 2048 → Fin 64 → ℝ)
    (hq : ∀ i t, q (ix2 i t) = (qr i t : EReal)) (hk : ∀ i t, k (ix2 i t) = (kr i t : EReal)) (i j : Fin 2048) :
    scores q k (ix2 i j) = (((∑ t, qr i t * kr j t) / 8 : ℝ) : EReal) := by
  rw [← score_after]
  unfold scores
  refine congrArg₂ Ideal.div ?_ ?_
  · refine (StackMember.dotGeneral_plain_apply (m := 2048) (k := 64) (n := 2048) none q _ i j).trans ?_
    refine Finset.sum_congr rfl fun t _ => ?_
    rw [hq, ← hk]
    exact congrArg (_ * ·) (transpose_ix2_apply k transposes_S2048x64_S64x2048_1_0 t j)
  · refine (broadcastInDim_scalar_apply _ _ _).trans ?_
    refine Eq.trans ?_ sqrt_sixtyfour
    exact congrArg Ideal.sqrt sixtyfour_f32

/-- The host's maximum over some axes, from `⊥`, of reals is real. -/
theorem hostMax_real {s t u : Shape} {axes : List (Fin s.rank)} (x : FVec Ideal s .f32) (init : u.Idx → Ideal .f32)
    (h : s.ReducesTo axes t) (hu : 0 < u.numel) (j : t.Idx) (i : s.Idx) (hi : h.drop i = j)
    (hinit : init (Shape.Idx.first hu) = (⊥ : EReal)) (hx : ∀ i, ∃ r : ℝ, x i = (r : EReal)) :
    ∃ r : ℝ, Host.reduce FloatOps.maximumf x init h hu j = (r : EReal) := by
  obtain ⟨r, hr⟩ := foldl_max_real (fun n => x (s.rowMajor.symm n))
    ((List.finRange s.numel).filter fun n => h.drop (s.rowMajor.symm n) = j) (s.rowMajor i)
    (List.mem_filter.mpr ⟨List.mem_finRange _, by rw [Equiv.symm_apply_apply, hi]; exact decide_eq_true rfl⟩) (fun y => hx _)
  refine ⟨r, Eq.trans ?_ hr⟩
  unfold Host.reduce
  rw [hinit]
  rfl

/-- The greatest of a row of reals is real. -/
theorem rowMax_real (s : FVec Ideal S2048x2048 .f32) (hs : ∀ x, ∃ r : ℝ, s x = (r : EReal)) (i : Fin 2048) :
    ∃ r : ℝ, rowMax s (ix1 i) = (r : EReal) := by
  have hd : reducesTo_S2048x2048_S2048_d1.drop (ix2 i (0 : Fin 2048)) = ix1 i := by
    funext a
    match a with
      | ⟨0, _⟩ => rfl
  exact hostMax_real s _ reducesTo_S2048x2048_S2048_d1 h_S_ (ix1 i) (ix2 i (0 : Fin 2048)) hd bot_f32 hs

theorem rowSum_apply (e : FVec Ideal S2048x2048 .f32) (i : Fin 2048) : rowSum e (ix1 i) = ∑ j : Fin 2048, e (ix2 i j) := by
  unfold rowSum
  refine (hostReduceAdd_apply _ _ _ _ _).trans ?_
  refine (Ideal.hostReduceAdd_r2_a1 _ _ _ _).trans ?_
  exact Eq.trans (congrArg (· + _) Ideal.ofBits_zero_f32) (zero_add _)

/-- The reference at an index: for each row there is a shift of its exponents. -/
theorem result_apply (q k v : FVec Ideal S2048x64 .f32) (qr kr : Fin 2048 → Fin 64 → ℝ)
    (hq : ∀ i t, q (ix2 i t) = (qr i t : EReal)) (hk : ∀ i t, k (ix2 i t) = (kr i t : EReal)) (i : Fin 2048) :
    ∃ a : ℝ, ∀ d : Fin 64, result q k v (ix2 i d)
      = ∑ j : Fin 2048, Ideal.div ((Real.exp ((∑ t, qr i t * kr j t) / 8 - a) : ℝ) : EReal)
          (∑ l : Fin 2048, ((Real.exp ((∑ t, qr i t * kr l t) / 8 - a) : ℝ) : EReal)) * v (ix2 j d) := by
  have hs := scores_apply q k qr kr hq hk
  obtain ⟨a, ha⟩ := rowMax_real (scores q k) (fun x => ⟨_, (congrArg (scores q k) (at_pair x)).trans (hs (x 0) (x 1))⟩) i
  have he : ∀ j, expo (scores q k) (ix2 i j) = ((Real.exp ((∑ t, qr i t * kr j t) / 8 - a) : ℝ) : EReal) := fun j => by
    have e : expo (scores q k) (ix2 i j) = Ideal.exp (scores q k (ix2 i j) - spread (rowMax (scores q k)) (ix2 i j)) := rfl
    rw [e, spread_apply, ha, hs, ← EReal.coe_sub]
    rfl
  refine ⟨a, fun d => ?_⟩
  unfold result
  refine (StackMember.dotGeneral_plain_apply (m := 2048) (k := 2048) (n := 64) none _ v i d).trans ?_
  refine Finset.sum_congr rfl fun j _ => congrArg (· * v (ix2 j d)) ?_
  refine congrArg₂ Ideal.div (he j) ?_
  rw [spread_apply, rowSum_apply]
  exact Finset.sum_congr rfl fun l _ => he l

end Cert.Attn.Ref

end
-- ==== Proof.Values.lean ====
/-
The kernel's result is its block of the reference's, for queries and keys that are finite.
-/
module

public import proofs.«01_k».proof.Proof.KernelValue
public import proofs.«01_k».proof.Proof.RefValue
public import proofs.«01_k».proof.Proof.Launch
public import proofs.«01_k».proof.Pre_finite_q_k_KernelIdeal
public import proofs.«01_k».proof.Pre_finite_q_k_ReferenceIdeal
public import Idealize.ShloMosaic.Lib.ReduceAll
public import Idealize.ShloMosaic.Lib.Layout
public import Idealize.ShloMosaic.Lib.Pipeline.ValueKit.Geometry

@[expose] public section

noncomputable section

namespace Cert.Attn

open Cert.KernelIdeal Cert.KernelIdeal.Gen

open Idealize.ShloMosaic hiding ix0 ix1 ix2 ix3
open Idealize.ShloMosaic.TcCoe
open Idealize.ShloMosaic.ValueIdx
open scoped BigOperators

/-! ## The precondition -/

instance pre_facts : Cert.Pre_finite_q_k_KernelIdeal.Facts := ⟨by decide, by decide, by decide⟩
instance pre_facts_ref : Cert.Pre_finite_q_k_ReferenceIdeal.Facts := ⟨by decide, by decide, by decide⟩

/-- An extended real whose absolute value is below `⊤` is real. -/
theorem real_of_abs_lt (x : EReal) (h : max x (-x) < ⊤) : ∃ r : ℝ, x = r := by
  induction x using EReal.rec with
  | bot => exact absurd h (by simp)
  | coe r => exact ⟨r, rfl⟩
  | top => exact absurd h (by simp)

/-- One array's part of the precondition. -/
theorem real_of_all (x : FVec Ideal Cert.Pre_finite_q_k_KernelIdeal.S256x64 .f32)
    (h : Host.reduce IntOp.andi (cmpf .olt (Host.absf x) (broadcastInDim Cert.Pre_finite_q_k_KernelIdeal.S256x64 ![]
      Cert.Pre_finite_q_k_KernelIdeal.Facts.bcast_S_S256x64 (constant Cert.Pre_finite_q_k_KernelIdeal.S_ .f32 0x7F800000#32)))
      (constantI Cert.Pre_finite_q_k_KernelIdeal.S_ 1 1#1) Cert.Pre_finite_q_k_KernelIdeal.Facts.reducesTo_S256x64_S_d0_1
      Cert.Pre_finite_q_k_KernelIdeal.Facts.h_S_ ix0 = 1#1) (i : Cert.Pre_finite_q_k_KernelIdeal.S256x64.Idx) : ∃ r : ℝ, x i = (r : EReal) := by
  have hi := Host.reduce_andi_all _ _ _ _ _ h i
  refine real_of_abs_lt (x i) ?_
  rw [← top_f32]
  rw [cmpf_apply, broadcastInDim_scalar_apply] at hi
  have hb : BitVec.ofBool (decide (max (x i) (-x i) < Ideal.ofBits .f32 0x7F800000#32)) = 1#1 := hi
  by_contra hn
  rw [decide_eq_false hn] at hb
  exact absurd hb (by decide)

/-! ## Blocks -/

theorem qStg_eq (m : (ℓ : Loc nD τ sig) → Buf (Elt Ideal) ℓ) (d : Dev nD) : qStg m d = m ((d : Thread nD τ).loc main_arg0) := by
  unfold qStg
  funext i
  rw [View.read_apply]
  refine (cast_eq _ _).trans (congrArg (m ((d : Thread nD τ).loc main_arg0)) (funext fun a => Fin.ext ?_))
  exact Pipeline.Window.rect_emb_val_of_index_zero win0_0 (0 : Fin 1) a rfl i

theorem kStg_eq (m : (ℓ : Loc nD τ sig) → Buf (Elt Ideal) ℓ) (d : Dev nD) : kStg m d = m ((d : Thread nD τ).loc main_arg1) := by
  unfold kStg
  funext i
  rw [View.read_apply]
  refine (cast_eq _ _).trans (congrArg (m ((d : Thread nD τ).loc main_arg1)) (funext fun a => Fin.ext ?_))
  exact Pipeline.Window.rect_emb_val_of_index_zero win0_1 (0 : Fin 1) a rfl i

theorem vStg_eq (m : (ℓ : Loc nD τ sig) → Buf (Elt Ideal) ℓ) (d : Dev nD) : vStg m d = m ((d : Thread nD τ).loc main_arg2) := by
  unfold vStg
  funext i
  rw [View.read_apply]
  refine (cast_eq _ _).trans (congrArg (m ((d : Thread nD τ).loc main_arg2)) (funext fun a => Fin.ext ?_))
  exact Pipeline.Window.rect_emb_val_of_index_zero win0_2 (0 : Fin 1) a rfl i

/-- Row `256 c + i` of the whole array. -/
def row (c : Dev nD) (i : Fin 256) : Fin 2048 := ⟨256 * c.val + i.val, by have h : c.val < 8 := c.isLt; omega⟩

theorem block_at (c : Dev nD) (x : (⟨2, ![2048, 64]⟩ : Shape).Idx → EReal) (h) (i : Fin 256) (t : Fin 64) :
    Layout.block ⟨2, ![256, 64]⟩ ⟨2, ![2048, 64]⟩ 0 8 c x h (ix2 i t) = x (ix2 (row c i) t) := by
  refine (Layout.block_apply _ _ _ _).trans (congrArg x (funext fun a => ?_))
  match a with
    | ⟨0, _⟩ => exact Fin.ext (by show c.val * 256 + i.val = 256 * c.val + i.val; omega)
    | ⟨1, _⟩ => rfl

/-- The order in which device `c` meets the rows: its own block, then the others by distance. -/
def turn (c : Dev nD) : Fin 2048 ≃ Fin 2048 where
  toFun j := ⟨(256 * c.val + j.val) % 2048, Nat.mod_lt _ (by decide)⟩
  invFun j := ⟨(256 * (8 - c.val) + j.val) % 2048, Nat.mod_lt _ (by decide)⟩
  left_inv j := Fin.ext (by have h : c.val < 8 := c.isLt; have := j.isLt; show (256 * (8 - c.val) + (256 * c.val + j.val) % 2048) % 2048 = j.val; omega)
  right_inv j := Fin.ext (by have h : c.val < 8 := c.isLt; have := j.isLt; show (256 * c.val + (256 * (8 - c.val) + j.val) % 2048) % 2048 = j.val; omega)

theorem row_turn (c : Dev nD) (j : Fin 2048) (h1) (h2) : row (nb c ⟨j.val / 256, h1⟩) ⟨j.val % 256, h2⟩ = turn c j := by
  have h : c.val < 8 := c.isLt
  have := j.isLt
  exact Fin.ext (by show 256 * ((c.val + j.val / 256) % 8) + j.val % 256 = (256 * c.val + j.val) % 2048; omega)

/-! ## The result -/

section
variable (m : (ℓ : Loc nD τ sig) → Buf (Elt Ideal) ℓ) (Q K V : (⟨2, ![2048, 64]⟩ : Shape).Idx → EReal)

/-- Each device's arguments are its blocks of `Q`, `K` and `V`. -/
def Blocks : Prop := ∀ c : Dev nD,
  m ((c : Thread nD τ).loc main_arg0) = Layout.block ⟨2, ![256, 64]⟩ ⟨2, ![2048, 64]⟩ 0 8 c Q
  ∧ m ((c : Thread nD τ).loc main_arg1) = Layout.block ⟨2, ![256, 64]⟩ ⟨2, ![2048, 64]⟩ 0 8 c K
  ∧ m ((c : Thread nD τ).loc main_arg2) = Layout.block ⟨2, ![256, 64]⟩ ⟨2, ![2048, 64]⟩ 0 8 c V

variable {m Q K V}

theorem qB_at (h : Blocks m Q K V) (c : Dev nD) (i : Fin 256) (t : Fin 64) :
    qB m c (ix2 i t) = Q (ix2 (row c i) t) * (((1 : ℝ) / 8 : ℝ) : EReal) := by
  unfold qB
  rw [pay3_apply, qStg_eq, (h c).1]
  exact congrArg (· * _) (block_at c Q _ i t)

theorem kB_at (h : Blocks m Q K V) (c : Dev nD) (u : Fin 1) (j : Fin 256) (t : Fin 64) :
    kB m c (ix3 u j t) = K (ix2 (row c j) t) := by
  unfold kB
  rw [pay1_apply, kStg_eq, (h c).2.1]
  exact block_at c K _ j t

theorem vAll_at (h : Blocks m Q K V) (c : Dev nD) (j : Fin 2048) (d : Fin 64) :
    vAll m c (ix2 j d) = V (ix2 (turn c j) d) := by
  have hj := j.isLt
  have e : vAll m c (ix2 j d) = vB m (nb c ⟨j.val / 256, by omega⟩) (ix2 (⟨j.val % 256, by omega⟩ : Fin 256) d) := rfl
  rw [e, ← row_turn c j (by omega) (by omega)]
  unfold vB
  rw [pay2_apply, vStg_eq, (h _).2.2]
  exact block_at _ V _ _ d

theorem pAll_at (h : Blocks m Q K V) (c : Dev nD) (i : Fin 256) (j : Fin 2048) :
    pAll m c (ix2 i j)
      = Ideal.exp (∑ t : Fin 64, Q (ix2 (row c i) t) * (((1 : ℝ) / 8 : ℝ) : EReal) * K (ix2 (turn c j) t)) := by
  have hj := j.isLt
  have e : pAll m c (ix2 i j) = k0_pay4 (qB m c) (kB m (nb c ⟨j.val / 256, by omega⟩)) (ix2 i (⟨j.val % 256, by omega⟩ : Fin 256)) := rfl
  rw [e, ← row_turn c j (by omega) (by omega), pay4_apply]
  refine congrArg Ideal.exp (Finset.sum_congr rfl fun t _ => ?_)
  exact congrArg₂ (· * ·) (qB_at h c i t) (kB_at h _ _ _ t)

/-- What a device writes is its block of the reference's result. -/
theorem outAt_at (h : Blocks m Q K V) (qr kr : Fin 2048 → Fin 64 → ℝ)
    (hq : ∀ i t, Q (ix2 i t) = (qr i t : EReal)) (hk : ∀ i t, K (ix2 i t) = (kr i t : EReal)) (c : Dev nD) (i : Fin 256) (d : Fin 64) :
    outAt m c (ix2 i d) = Ref.result Q K V (ix2 (row c i) d) := by
  obtain ⟨a, ha⟩ := Ref.result_apply Q K V qr kr hq hk (row c i)
  rw [ha d, ← weights (fun j => (∑ t, qr (row c i) t * kr j t) / 8) a fun j => V (ix2 j d)]
  have hp : ∀ j, pAll m c (ix2 i j) = ((Real.exp ((∑ t, qr (row c i) t * kr (turn c j) t) / 8) : ℝ) : EReal) := fun j => by
    rw [pAll_at h c i j]
    simp only [hq, hk]
    rw [score_before]
    rfl
  unfold outAt
  rw [pay13_apply]
  refine congrArg₂ Ideal.div ?_ ?_
  · refine Eq.trans (Finset.sum_congr rfl fun j _ => by rw [hp, vAll_at h])
      (Equiv.sum_comp (turn c) fun j => ((Real.exp ((∑ t, qr (row c i) t * kr j t) / 8) : ℝ) : EReal) * V (ix2 j d))
  · refine Eq.trans (Finset.sum_congr rfl fun j _ => by rw [hp])
      (Equiv.sum_comp (turn c) fun j => ((Real.exp ((∑ t, qr (row c i) t * kr j t) / 8) : ℝ) : EReal) * 1)

/-- Every element of the whole array lies in a device's block. -/
theorem row_surj (I : Fin 2048) : ∃ c : Dev nD, ∃ i : Fin 256, I = row c i := by
  have hI := I.isLt
  exact ⟨⟨I.val / 256, by show I.val / 256 < 8; omega⟩, ⟨I.val % 256, by omega⟩, Fin.ext (by show I.val = 256 * (I.val / 256) + I.val % 256; omega)⟩

/-- Blocks of reals make an array of reals. -/
theorem real_of_blocks (x : (⟨2, ![2048, 64]⟩ : Shape).Idx → EReal)
    (hx : ∀ c : Dev nD, ∀ i : S256x64.Idx, ∃ r : ℝ, Layout.block ⟨2, ![256, 64]⟩ ⟨2, ![2048, 64]⟩ 0 8 c x (by decide) i = (r : EReal)) :
    ∃ f : Fin 2048 → Fin 64 → ℝ, ∀ i t, x (ix2 i t) = (f i t : EReal) := by
  have h : ∀ i t, ∃ r : ℝ, x (ix2 i t) = (r : EReal) := fun I t => by
    obtain ⟨c, i, rfl⟩ := row_surj I
    obtain ⟨r, hr⟩ := hx c (ix2 i t)
    exact ⟨r, (block_at c x _ i t).symm.trans hr⟩
  choose f hf using h
  exact ⟨f, hf⟩

/-- The precondition of one device's blocks. -/
theorem real_of_pre (q k v : FVec Ideal S256x64 .f32) (h : Cert.Pre_finite_q_k_KernelIdeal.fn (F := Ideal) q k v = fun _ => 1#1) :
    (∀ i, ∃ r : ℝ, q i = (r : EReal)) ∧ ∀ i, ∃ r : ℝ, k i = (r : EReal) := by
  obtain ⟨h1, h2⟩ := IntOp.andi_eq_one.1 (congrFun h ix0)
  exact ⟨real_of_all q h1, real_of_all k h2⟩

/-- The output array of a device at the end. -/
theorem finalA_out (m : (ℓ : Loc nD τ sig) → Buf (Elt Ideal) ℓ) (c : Dev nD) : finalA m c (3 : Fin 4) = outAt m c := by
  refine (dats m 0 c).arrAt_eq_of_after_last (3 : Fin 4) t₀ (by decide +kernel) _ (fun j => ?_)
  rfl

/-- Under the precondition each device ends with its block of the reference's result. -/
theorem value (h : Blocks m Q K V)
    (hpre : ∀ c : Dev nD, Cert.Pre_finite_q_k_KernelIdeal.fn (F := Ideal) (m ((c : Thread nD τ).loc main_arg0))
      (m ((c : Thread nD τ).loc main_arg1)) (m ((c : Thread nD τ).loc main_arg2)) = fun _ => 1#1) (c : Dev nD) :
    finalA m c (3 : Fin 4) = Layout.block ⟨2, ![256, 64]⟩ ⟨2, ![2048, 64]⟩ 0 8 c (Ref.result Q K V) := by
  obtain ⟨qr, hq⟩ := real_of_blocks Q fun c i => by
    obtain ⟨r, hr⟩ := (real_of_pre _ _ _ (hpre c)).1 i
    exact ⟨r, (congrFun (h c).1 i).symm.trans hr⟩
  obtain ⟨kr, hk⟩ := real_of_blocks K fun c i => by
    obtain ⟨r, hr⟩ := (real_of_pre _ _ _ (hpre c)).2 i
    exact ⟨r, (congrFun (h c).2.1 i).symm.trans hr⟩
  rw [finalA_out]
  funext x
  have e : x = ix2 (x 0) (x 1) := Ref.at_pair x
  rw [e]
  exact (outAt_at h qr kr hq hk c (x 0) (x 1)).trans (block_at c (Ref.result Q K V) _ (x 0) (x 1)).symm

end

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Values
public import Idealize.ShloMosaic.Adequacy
public import Idealize.ShloMosaic.Init

@[expose] public section

noncomputable section

namespace Cert.Proof

open Idealize.ShloMosaic Idealize.SL.Sem Cert.Kernel

/-- The idealized kernel terminates, keeps its arguments and ends with every counter at zero. -/
theorem frame_kernelIdeal : Cert.quiescent_KernelIdeal := fun m ρ _ =>
  Cert.Attn.run_args (F := Ideal) m ρ

/-- The reference is a list of host operations; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's blocks are those of the reference's result, for queries and keys that are finite. -/
theorem value : Cert.algebraic_KernelIdeal_ReferenceIdeal_pre_finite_q_k_KernelIdeal := fun m g m' g' hpre hargs =>
  ⟨Cert.Attn.Ref.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)),
    (θ_run Cert.KernelIdeal.defs _ _).mono (fun _ h c =>
      ⟨(h.1 c (3 : Fin 4)).trans (Cert.Attn.value hargs hpre c),
        (h.1 c (0 : Fin 4)).trans (Cert.Attn.finalA_in m c _ (Or.inl rfl)),
        (h.1 c (1 : Fin 4)).trans (Cert.Attn.finalA_in m c _ (Or.inr (Or.inl rfl))),
        (h.1 c (2 : Fin 4)).trans (Cert.Attn.finalA_in m c _ (Or.inr (Or.inr rfl)))⟩)
      (Cert.Attn.run_main (F := Ideal) m g),
    (θ_run Cert.ReferenceIdeal.defs _ _).mono (fun _ h => h (0 : Dev Cert.ReferenceIdeal.nD))
      (Cert.ReferenceIdeal.Value.run (F := Ideal) m' g')⟩

theorem claim : Cert.Claim := ⟨Cert.Kernel.Gen.facts, Cert.KernelIdeal.Gen.facts, Cert.ReferenceIdeal.Gen.facts,
  Cert.Attn.pre_facts, Cert.Attn.pre_facts_ref, Cert.Attn.frame_kernel, frame_kernelIdeal, fun m ρ _ => frame_kernelIdeal m ρ trivial,
  frame_reference, fun m ρ _ => frame_reference m ρ trivial, trivial, value⟩

end Cert.Proof

end
